-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x8192 : Shape := ⟨3, ![16, 256, 8192]⟩
abbrev S16x8192 : Shape := ⟨2, ![16, 8192]⟩
abbrev S8192 : Shape := ⟨1, ![8192]⟩
abbrev S2x8192 : Shape := ⟨2, ![2, 8192]⟩
abbrev S_ : Shape := ⟨0, ![]⟩
abbrev S1x2x8192 : Shape := ⟨3, ![1, 2, 8192]⟩
abbrev S1x8192 : Shape := ⟨2, ![1, 8192]⟩
abbrev S16 : Shape := ⟨1, ![16]⟩
abbrev S1x16 : Shape := ⟨2, ![1, 16]⟩

abbrev nBuf : Table → Nat
  | .hbm => 3
  | .local .scVector .vmem => 7
  | _ => 0

abbrev bufTy : (tb : Table) → Fin (nBuf tb) → BufTy
  | .hbm, ⟨0, _⟩ => ⟨S16x256x8192, .f32⟩
  | .hbm, ⟨1, _⟩ => ⟨S16x8192, .i32⟩
  | .hbm, ⟨2, _⟩ => ⟨S16x256x8192, .f32⟩
  | .local .scVector .vmem, ⟨0, _⟩ => ⟨S8192, .i32⟩
  | .local .scVector .vmem, ⟨1, _⟩ => ⟨S2x8192, .f32⟩
  | .local .scVector .vmem, ⟨2, _⟩ => ⟨S2x8192, .f32⟩
  | .local .scVector .vmem, ⟨3, _⟩ => ⟨S2x8192, .f32⟩
  | .local .scVector .vmem, ⟨4, _⟩ => ⟨S2x8192, .f32⟩
  | .local .scVector .vmem, ⟨5, _⟩ => ⟨S2x8192, .f32⟩
  | .local .scVector .vmem, ⟨6, _⟩ => ⟨S2x8192, .f32⟩
  | _, _ => ⟨S16x256x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let v30 : BitVec 32 := Scalar.addi v29 c0_i32_11
  let c0_i32_12 : BitVec 32 := 0#32
  ![v18.toNat, v30.toNat, 0]
def k0_off1_at (r : Fin 5) : BitVec 32 :=
  if r.val < 2 then
    if r.val < 1 then
      0#32
    else
      2#32
  else
    if r.val < 3 then
      4#32
    else
      if r.val < 4 then
        124#32
      else
        126#32
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_30_r0 : BitVec 32 := 0#32
  ![v18.toNat, 0]
@[reducible] def k0_t1_loop : Scf.Loop 32 :=
  let c0_i32_19 : BitVec 32 := 0#32
  let c512_i32 : BitVec 32 := 512#32
  let v45 : BitVec 32 := Scalar.addi c0_i32_19 c512_i32
  let c1_i32_20 : BitVec 32 := 1#32
  ⟨c0_i32_19, v45, c1_i32_20⟩
def k0_off3 (k0_t1 : Fin k0_t1_loop.trips) : Fin 1 → Nat :=
  let c0_i32_31 : BitVec 32 := 0#32
  let c0_i32_19 : BitVec 32 := 0#32
  let c1_i32_20 : BitVec 32 := 1#32
  let arg18 : BitVec 32 := Scf.iv c0_i32_19 c1_i32_20 k0_t1
  let c1_i32_30 : BitVec 32 := 1#32
  let v57 : BitVec 32 := Scalar.muli arg18 c1_i32_30
  let v58 : BitVec 32 := Scalar.addi c0_i32_31 v57
  let c16_i32_32 : BitVec 32 := 16#32
  let v59 : BitVec 32 := Scalar.muli v58 c16_i32_32
  let v60 : Index := Scalar.indexCast v59
  ![v60.toNat]
@[reducible] def k0_t2_loop : Scf.Loop 32 :=
  let c0_i32_23 : BitVec 32 := 0#32
  let c16_i32 : BitVec 32 := 16#32
  let v46 : BitVec 32 := Scalar.addi c0_i32_23 c16_i32
  let c1_i32_24 : BitVec 32 := 1#32
  ⟨c0_i32_23, v46, c1_i32_24⟩
def k0_cond1 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_30 : BitVec 32 := 4#32
  let v57 : BitVec 32 := Scalar.muli arg18 c4_i32_30
  let c0_i32_31 : BitVec 32 := 0#32
  let v58 : BitVec 32 := Scalar.addi v57 c0_i32_31
  let c3_i32 : BitVec 32 := 3#32
  let v59 : BitVec 32 := Scalar.addi v58 c3_i32
  let c64_i32 : BitVec 32 := 64#32
  let v60 : BitVec 1 := Scalar.cmpi .slt v59 c64_i32
  let v61 : BitVec 32 := Scalar.extui v60
  let c0_i32_32 : BitVec 32 := 0#32
  let v62 : BitVec 1 := Scalar.cmpi .ne v61 c0_i32_32
  v62

def k0_off4 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_30 : BitVec 32 := 4#32
  let v57 : BitVec 32 := Scalar.muli arg18 c4_i32_30
  let c0_i32_31 : BitVec 32 := 0#32
  let v58 : BitVec 32 := Scalar.addi v57 c0_i32_31
  let c3_i32_96 : BitVec 32 := 3#32
  let v145 : BitVec 32 := Scalar.addi v58 c3_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
def k0_off5 (i : grid0.Coords) (k0_t2 : Fin k0_t2_loop.trips) (c0_i32_31 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_30 : BitVec 32 := 4#32
  let v57 : BitVec 32 := Scalar.muli arg18 c4_i32_30
  let v58 : BitVec 32 := Scalar.addi v57 c0_i32_31
  let c2_i32_33 : BitVec 32 := 2#32
  let v63 : BitVec 32 := Scalar.muli v58 c2_i32_33
  let v64 : BitVec 32 := Scalar.addi v29 v63
  let c0_i32_34 : BitVec 32 := 0#32
  ![v18.toNat, v64.toNat, 0]
def k0_cond2 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_30 : BitVec 32 := 4#32
  let v57 : BitVec 32 := Scalar.muli arg18 c4_i32_30
  let c0_i32_31 : BitVec 32 := 0#32
  let v58 : BitVec 32 := Scalar.addi v57 c0_i32_31
  let c2_i32_36 : BitVec 32 := 2#32
  let v69 : BitVec 1 := Scalar.cmpi .sge v58 c2_i32_36
  let v70 : BitVec 32 := Scalar.extui v69
  let c0_i32_37 : BitVec 32 := 0#32
  let v71 : BitVec 1 := Scalar.cmpi .ne v70 c0_i32_37
  v71

def k0_off6 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_30 : BitVec 32 := 4#32
  let v57 : BitVec 32 := Scalar.muli arg18 c4_i32_30
  let c0_i32_31 : BitVec 32 := 0#32
  let v58 : BitVec 32 := Scalar.addi v57 c0_i32_31
  let c2_i32_96 : BitVec 32 := 2#32
  let v145 : BitVec 32 := Scalar.subi v58 c2_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
@[reducible] def k0_t3_loop : Scf.Loop 32 :=
  let c0_i32_38 : BitVec 32 := 0#32
  let c512_i32_39 : BitVec 32 := 512#32
  let v72 : BitVec 32 := Scalar.addi c0_i32_38 c512_i32_39
  let c1_i32_40 : BitVec 32 := 1#32
  ⟨c0_i32_38, v72, c1_i32_40⟩
def k0_off7 (k0_t3 : Fin k0_t3_loop.trips) : Fin 1 → Nat :=
  let c0_i32_97 : BitVec 32 := 0#32
  let c0_i32_38 : BitVec 32 := 0#32
  let c1_i32_40 : BitVec 32 := 1#32
  let arg19 : BitVec 32 := Scf.iv c0_i32_38 c1_i32_40 k0_t3
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v148 : Index := Scalar.indexCast v147
  ![v148.toNat]

def k0_chk1 (v149 : IVec S16 32) (v150 : IVec S16 32) : Prop :=
  (∀ a x, ((![v150, v149] : Fin 2 → IVec S16 32) a x).toNat < S2x8192.size a)
theorem k0_idx1_inb : ∀ (v149 : IVec S16 32) (v150 : IVec S16 32) (k0_hw1 : k0_chk1 v149 v150), ∀ a x, ((![v150, v149] : Fin 2 → IVec S16 32) a x).toNat < S2x8192.size a := fun v149 v150 k0_hw1 => k0_hw1
def k0_off8 (k0_t3 : Fin k0_t3_loop.trips) : Fin 2 → Nat :=
  let c0_i32_100 : BitVec 32 := 0#32
  let v152 : Index := Scalar.indexCast c0_i32_100
  let c0_i32_97 : BitVec 32 := 0#32
  let c0_i32_38 : BitVec 32 := 0#32
  let c1_i32_40 : BitVec 32 := 1#32
  let arg19 : BitVec 32 := Scf.iv c0_i32_38 c1_i32_40 k0_t3
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v153 : Index := Scalar.indexCast v147
  ![0, v153.toNat]

def k0_chk2 (v149 : IVec S16 32) (v155 : IVec S16 32) : Prop :=
  (∀ a x, ((![v155, v149] : Fin 2 → IVec S16 32) a x).toNat < S2x8192.size a)
theorem k0_idx2_inb : ∀ (v149 : IVec S16 32) (v155 : IVec S16 32) (k0_hw2 : k0_chk2 v149 v155), ∀ a x, ((![v155, v149] : Fin 2 → IVec S16 32) a x).toNat < S2x8192.size a := fun v149 v155 k0_hw2 => k0_hw2
def k0_off9 (k0_t3 : Fin k0_t3_loop.trips) : Fin 2 → Nat :=
  let c1_i32_102 : BitVec 32 := 1#32
  let v157 : Index := Scalar.indexCast c1_i32_102
  let c0_i32_97 : BitVec 32 := 0#32
  let c0_i32_38 : BitVec 32 := 0#32
  let c1_i32_40 : BitVec 32 := 1#32
  let arg19 : BitVec 32 := Scf.iv c0_i32_38 c1_i32_40 k0_t3
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v158 : Index := Scalar.indexCast v147
  ![1, v158.toNat]
def k0_cond3 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_45 : BitVec 32 := 4#32
  let v79 : BitVec 32 := Scalar.muli arg18 c4_i32_45
  let c1_i32_46 : BitVec 32 := 1#32
  let v80 : BitVec 32 := Scalar.addi v79 c1_i32_46
  let c3_i32_47 : BitVec 32 := 3#32
  let v81 : BitVec 32 := Scalar.addi v80 c3_i32_47
  let c64_i32_48 : BitVec 32 := 64#32
  let v82 : BitVec 1 := Scalar.cmpi .slt v81 c64_i32_48
  let v83 : BitVec 32 := Scalar.extui v82
  let c0_i32_49 : BitVec 32 := 0#32
  let v84 : BitVec 1 := Scalar.cmpi .ne v83 c0_i32_49
  v84

def k0_off10 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_45 : BitVec 32 := 4#32
  let v79 : BitVec 32 := Scalar.muli arg18 c4_i32_45
  let c1_i32_46 : BitVec 32 := 1#32
  let v80 : BitVec 32 := Scalar.addi v79 c1_i32_46
  let c3_i32_96 : BitVec 32 := 3#32
  let v145 : BitVec 32 := Scalar.addi v80 c3_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
def k0_cond4 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_45 : BitVec 32 := 4#32
  let v79 : BitVec 32 := Scalar.muli arg18 c4_i32_45
  let c1_i32_46 : BitVec 32 := 1#32
  let v80 : BitVec 32 := Scalar.addi v79 c1_i32_46
  let c2_i32_53 : BitVec 32 := 2#32
  let v91 : BitVec 1 := Scalar.cmpi .sge v80 c2_i32_53
  let v92 : BitVec 32 := Scalar.extui v91
  let c0_i32_54 : BitVec 32 := 0#32
  let v93 : BitVec 1 := Scalar.cmpi .ne v92 c0_i32_54
  v93

def k0_off11 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_45 : BitVec 32 := 4#32
  let v79 : BitVec 32 := Scalar.muli arg18 c4_i32_45
  let c1_i32_46 : BitVec 32 := 1#32
  let v80 : BitVec 32 := Scalar.addi v79 c1_i32_46
  let c2_i32_96 : BitVec 32 := 2#32
  let v145 : BitVec 32 := Scalar.subi v80 c2_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
@[reducible] def k0_t4_loop : Scf.Loop 32 :=
  let c0_i32_55 : BitVec 32 := 0#32
  let c512_i32_56 : BitVec 32 := 512#32
  let v94 : BitVec 32 := Scalar.addi c0_i32_55 c512_i32_56
  let c1_i32_57 : BitVec 32 := 1#32
  ⟨c0_i32_55, v94, c1_i32_57⟩
def k0_off12 (k0_t4 : Fin k0_t4_loop.trips) : Fin 1 → Nat :=
  let c0_i32_97 : BitVec 32 := 0#32
  let c0_i32_55 : BitVec 32 := 0#32
  let c1_i32_57 : BitVec 32 := 1#32
  let arg19 : BitVec 32 := Scf.iv c0_i32_55 c1_i32_57 k0_t4
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v148 : Index := Scalar.indexCast v147
  ![v148.toNat]

def k0_chk3 (v149 : IVec S16 32) (v150 : IVec S16 32) : Prop :=
  (∀ a x, ((![v150, v149] : Fin 2 → IVec S16 32) a x).toNat < S2x8192.size a)
theorem k0_idx3_inb : ∀ (v149 : IVec S16 32) (v150 : IVec S16 32) (k0_hw3 : k0_chk3 v149 v150), ∀ a x, ((![v150, v149] : Fin 2 → IVec S16 32) a x).toNat < S2x8192.size a := fun v149 v150 k0_hw3 => k0_hw3
def k0_off13 (k0_t4 : Fin k0_t4_loop.trips) : Fin 2 → Nat :=
  let c0_i32_100 : BitVec 32 := 0#32
  let v152 : Index := Scalar.indexCast c0_i32_100
  let c0_i32_97 : BitVec 32 := 0#32
  let c0_i32_55 : BitVec 32 := 0#32
  let c1_i32_57 : BitVec 32 := 1#32
  let arg19 : BitVec 32 := Scf.iv c0_i32_55 c1_i32_57 k0_t4
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v153 : Index := Scalar.indexCast v147
  ![0, v153.toNat]

def k0_chk4 (v149 : IVec S16 32) (v155 : IVec S16 32) : Prop :=
  (∀ a x, ((![v155, v149] : Fin 2 → IVec S16 32) a x).toNat < S2x8192.size a)
theorem k0_idx4_inb : ∀ (v149 : IVec S16 32) (v155 : IVec S16 32) (k0_hw4 : k0_chk4 v149 v155), ∀ a x, ((![v155, v149] : Fin 2 → IVec S16 32) a x).toNat < S2x8192.size a := fun v149 v155 k0_hw4 => k0_hw4
def k0_off14 (k0_t4 : Fin k0_t4_loop.trips) : Fin 2 → Nat :=
  let c1_i32_102 : BitVec 32 := 1#32
  let v157 : Index := Scalar.indexCast c1_i32_102
  let c0_i32_97 : BitVec 32 := 0#32
  let c0_i32_55 : BitVec 32 := 0#32
  let c1_i32_57 : BitVec 32 := 1#32
  let arg19 : BitVec 32 := Scf.iv c0_i32_55 c1_i32_57 k0_t4
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v158 : Index := Scalar.indexCast v147
  ![1, v158.toNat]
def k0_cond5 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_62 : BitVec 32 := 4#32
  let v101 : BitVec 32 := Scalar.muli arg18 c4_i32_62
  let c2_i32_63 : BitVec 32 := 2#32
  let v102 : BitVec 32 := Scalar.addi v101 c2_i32_63
  let c3_i32_64 : BitVec 32 := 3#32
  let v103 : BitVec 32 := Scalar.addi v102 c3_i32_64
  let c64_i32_65 : BitVec 32 := 64#32
  let v104 : BitVec 1 := Scalar.cmpi .slt v103 c64_i32_65
  let v105 : BitVec 32 := Scalar.extui v104
  let c0_i32_66 : BitVec 32 := 0#32
  let v106 : BitVec 1 := Scalar.cmpi .ne v105 c0_i32_66
  v106

def k0_off15 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_62 : BitVec 32 := 4#32
  let v101 : BitVec 32 := Scalar.muli arg18 c4_i32_62
  let c2_i32_63 : BitVec 32 := 2#32
  let v102 : BitVec 32 := Scalar.addi v101 c2_i32_63
  let c3_i32_96 : BitVec 32 := 3#32
  let v145 : BitVec 32 := Scalar.addi v102 c3_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
def k0_cond6 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_62 : BitVec 32 := 4#32
  let v101 : BitVec 32 := Scalar.muli arg18 c4_i32_62
  let c2_i32_63 : BitVec 32 := 2#32
  let v102 : BitVec 32 := Scalar.addi v101 c2_i32_63
  let c2_i32_70 : BitVec 32 := 2#32
  let v113 : BitVec 1 := Scalar.cmpi .sge v102 c2_i32_70
  let v114 : BitVec 32 := Scalar.extui v113
  let c0_i32_71 : BitVec 32 := 0#32
  let v115 : BitVec 1 := Scalar.cmpi .ne v114 c0_i32_71
  v115

def k0_off16 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_62 : BitVec 32 := 4#32
  let v101 : BitVec 32 := Scalar.muli arg18 c4_i32_62
  let c2_i32_63 : BitVec 32 := 2#32
  let v102 : BitVec 32 := Scalar.addi v101 c2_i32_63
  let c2_i32_96 : BitVec 32 := 2#32
  let v145 : BitVec 32 := Scalar.subi v102 c2_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
@[reducible] def k0_t5_loop : Scf.Loop 32 :=
  let c0_i32_72 : BitVec 32 := 0#32
  let c512_i32_73 : BitVec 32 := 512#32
  let v116 : BitVec 32 := Scalar.addi c0_i32_72 c512_i32_73
  let c1_i32_74 : BitVec 32 := 1#32
  ⟨c0_i32_72, v116, c1_i32_74⟩
def k0_off17 (k0_t5 : Fin k0_t5_loop.trips) : Fin 1 → Nat :=
  let c0_i32_97 : BitVec 32 := 0#32
  let c0_i32_72 : BitVec 32 := 0#32
  let c1_i32_74 : BitVec 32 := 1#32
  let arg19 : BitVec 32 := Scf.iv c0_i32_72 c1_i32_74 k0_t5
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v148 : Index := Scalar.indexCast v147
  ![v148.toNat]

def k0_chk5 (v149 : IVec S16 32) (v150 : IVec S16 32) : Prop :=
  (∀ a x, ((![v150, v149] : Fin 2 → IVec S16 32) a x).toNat < S2x8192.size a)
theorem k0_idx5_inb : ∀ (v149 : IVec S16 32) (v150 : IVec S16 32) (k0_hw5 : k0_chk5 v149 v150), ∀ a x, ((![v150, v149] : Fin 2 → IVec S16 32) a x).toNat < S2x8192.size a := fun v149 v150 k0_hw5 => k0_hw5
def k0_off18 (k0_t5 : Fin k0_t5_loop.trips) : Fin 2 → Nat :=
  let c0_i32_100 : BitVec 32 := 0#32
  let v152 : Index := Scalar.indexCast c0_i32_100
  let c0_i32_97 : BitVec 32 := 0#32
  let c0_i32_72 : BitVec 32 := 0#32
  let c1_i32_74 : BitVec 32 := 1#32
  let arg19 : BitVec 32 := Scf.iv c0_i32_72 c1_i32_74 k0_t5
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v153 : Index := Scalar.indexCast v147
  ![0, v153.toNat]

def k0_chk6 (v149 : IVec S16 32) (v155 : IVec S16 32) : Prop :=
  (∀ a x, ((![v155, v149] : Fin 2 → IVec S16 32) a x).toNat < S2x8192.size a)
theorem k0_idx6_inb : ∀ (v149 : IVec S16 32) (v155 : IVec S16 32) (k0_hw6 : k0_chk6 v149 v155), ∀ a x, ((![v155, v149] : Fin 2 → IVec S16 32) a x).toNat < S2x8192.size a := fun v149 v155 k0_hw6 => k0_hw6
def k0_off19 (k0_t5 : Fin k0_t5_loop.trips) : Fin 2 → Nat :=
  let c1_i32_102 : BitVec 32 := 1#32
  let v157 : Index := Scalar.indexCast c1_i32_102
  let c0_i32_97 : BitVec 32 := 0#32
  let c0_i32_72 : BitVec 32 := 0#32
  let c1_i32_74 : BitVec 32 := 1#32
  let arg19 : BitVec 32 := Scf.iv c0_i32_72 c1_i32_74 k0_t5
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v158 : Index := Scalar.indexCast v147
  ![1, v158.toNat]
def k0_cond7 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_79 : BitVec 32 := 4#32
  let v123 : BitVec 32 := Scalar.muli arg18 c4_i32_79
  let c3_i32_80 : BitVec 32 := 3#32
  let v124 : BitVec 32 := Scalar.addi v123 c3_i32_80
  let c3_i32_81 : BitVec 32 := 3#32
  let v125 : BitVec 32 := Scalar.addi v124 c3_i32_81
  let c64_i32_82 : BitVec 32 := 64#32
  let v126 : BitVec 1 := Scalar.cmpi .slt v125 c64_i32_82
  let v127 : BitVec 32 := Scalar.extui v126
  let c0_i32_83 : BitVec 32 := 0#32
  let v128 : BitVec 1 := Scalar.cmpi .ne v127 c0_i32_83
  v128

def k0_off20 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_79 : BitVec 32 := 4#32
  let v123 : BitVec 32 := Scalar.muli arg18 c4_i32_79
  let c3_i32_80 : BitVec 32 := 3#32
  let v124 : BitVec 32 := Scalar.addi v123 c3_i32_80
  let c3_i32_96 : BitVec 32 := 3#32
  let v145 : BitVec 32 := Scalar.addi v124 c3_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
def k0_cond8 (k0_t2 : Fin k0_t2_loop.trips) : BitVec 1 :=
  let c0_i32_23 : BitVec 32 := 0#32
  let c1_i32_24 : BitVec 32 := 1#32
  let arg18 : BitVec 32 := Scf.iv c0_i32_23 c1_i32_24 k0_t2
  let c4_i32_79 : BitVec 32 := 4#32
  let v123 : BitVec 32 := Scalar.muli arg18 c4_i32_79
  let c3_i32_80 : BitVec 32 := 3#32
  let v124 : BitVec 32 := Scalar.addi v123 c3_i32_80
  let c2_i32_87 : BitVec 32 := 2#32
  let v135 : BitVec 1 := Scalar.cmpi .sge v124 c2_i32_87
  let v136 : BitVec 32 := Scalar.extui v135
  let c0_i32_88 : BitVec 32 := 0#32
  let v137 : BitVec 1 := Scalar.cmpi .ne v136 c0_i32_88
  v137

def k0_off21 (i : grid0.Coords) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_23 : BitVec 32 := 0#32
  let c1_i32_24 : BitVec 32 := 1#32
  let arg18 : BitVec 32 := Scf.iv c0_i32_23 c1_i32_24 k0_t2
  let c4_i32_79 : BitVec 32 := 4#32
  let v123 : BitVec 32 := Scalar.muli arg18 c4_i32_79
  let c3_i32_80 : BitVec 32 := 3#32
  let v124 : BitVec 32 := Scalar.addi v123 c3_i32_80
  let c2_i32_96 : BitVec 32 := 2#32
  let v145 : BitVec 32 := Scalar.subi v124 c2_i32_96
  let c2_i32_97 : BitVec 32 := 2#32
  let v146 : BitVec 32 := Scalar.muli v145 c2_i32_97
  let v147 : BitVec 32 := Scalar.addi v29 v146
  let c0_i32_98 : BitVec 32 := 0#32
  ![v18.toNat, v147.toNat, 0]
@[reducible] def k0_t6_loop : Scf.Loop 32 :=
  let c0_i32_89 : BitVec 32 := 0#32
  let c512_i32_90 : BitVec 32 := 512#32
  let v138 : BitVec 32 := Scalar.addi c0_i32_89 c512_i32_90
  let c1_i32_91 : BitVec 32 := 1#32
  ⟨c0_i32_89, v138, c1_i32_91⟩
def k0_off22 (k0_t6 : Fin k0_t6_loop.trips) : Fin 1 → Nat :=
  let c0_i32_97 : BitVec 32 := 0#32
  let c0_i32_89 : BitVec 32 := 0#32
  let c1_i32_91 : BitVec 32 := 1#32
  let arg19 : BitVec 32 := Scf.iv c0_i32_89 c1_i32_91 k0_t6
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v148 : Index := Scalar.indexCast v147
  ![v148.toNat]

def k0_chk7 (v149 : IVec S16 32) (v150 : IVec S16 32) : Prop :=
  (∀ a x, ((![v150, v149] : Fin 2 → IVec S16 32) a x).toNat < S2x8192.size a)
theorem k0_idx7_inb : ∀ (v149 : IVec S16 32) (v150 : IVec S16 32) (k0_hw7 : k0_chk7 v149 v150), ∀ a x, ((![v150, v149] : Fin 2 → IVec S16 32) a x).toNat < S2x8192.size a := fun v149 v150 k0_hw7 => k0_hw7
def k0_off23 (k0_t6 : Fin k0_t6_loop.trips) : Fin 2 → Nat :=
  let c0_i32_100 : BitVec 32 := 0#32
  let v152 : Index := Scalar.indexCast c0_i32_100
  let c0_i32_97 : BitVec 32 := 0#32
  let c0_i32_89 : BitVec 32 := 0#32
  let c1_i32_91 : BitVec 32 := 1#32
  let arg19 : BitVec 32 := Scf.iv c0_i32_89 c1_i32_91 k0_t6
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v153 : Index := Scalar.indexCast v147
  ![0, v153.toNat]

def k0_chk8 (v149 : IVec S16 32) (v155 : IVec S16 32) : Prop :=
  (∀ a x, ((![v155, v149] : Fin 2 → IVec S16 32) a x).toNat < S2x8192.size a)
theorem k0_idx8_inb : ∀ (v149 : IVec S16 32) (v155 : IVec S16 32) (k0_hw8 : k0_chk8 v149 v155), ∀ a x, ((![v155, v149] : Fin 2 → IVec S16 32) a x).toNat < S2x8192.size a := fun v149 v155 k0_hw8 => k0_hw8
def k0_off24 (k0_t6 : Fin k0_t6_loop.trips) : Fin 2 → Nat :=
  let c1_i32_102 : BitVec 32 := 1#32
  let v157 : Index := Scalar.indexCast c1_i32_102
  let c0_i32_97 : BitVec 32 := 0#32
  let c0_i32_89 : BitVec 32 := 0#32
  let c1_i32_91 : BitVec 32 := 1#32
  let arg19 : BitVec 32 := Scf.iv c0_i32_89 c1_i32_91 k0_t6
  let c1_i32_96 : BitVec 32 := 1#32
  let v145 : BitVec 32 := Scalar.muli arg19 c1_i32_96
  let v146 : BitVec 32 := Scalar.addi c0_i32_97 v145
  let c16_i32_98 : BitVec 32 := 16#32
  let v147 : BitVec 32 := Scalar.muli v146 c16_i32_98
  let v158 : Index := Scalar.indexCast v147
  ![1, v158.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x256x8192 : Shape := ⟨3, ![16, 256, 8192]⟩
abbrev S16x8192 : Shape := ⟨2, ![16, 8192]⟩
abbrev S_ : Shape := ⟨0, ![]⟩
abbrev S8192 : Shape := ⟨1, ![8192]⟩
abbrev S1x8192 : Shape := ⟨2, ![1, 8192]⟩
abbrev S16x1x8192 : Shape := ⟨3, ![16, 1, 8192]⟩
abbrev S16x256x8192x1 : Shape := ⟨4, ![16, 256, 8192, 1]⟩
abbrev S1 : Shape := ⟨1, ![1]⟩
abbrev S1x1x1x1 : Shape := ⟨4, ![1, 1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x256x8192, .f32⟩
  | .hbm, ⟨1, _⟩ => ⟨S16x8192, .i32⟩
  | .hbm, ⟨2, _⟩ => ⟨S_, .i32⟩
  | .hbm, ⟨3, _⟩ => ⟨S16x8192, .i32⟩
  | .hbm, ⟨4, _⟩ => ⟨S16x8192, .i32⟩
  | .hbm, ⟨5, _⟩ => ⟨S8192, .i32⟩
  | .hbm, ⟨6, _⟩ => ⟨S1x8192, .i32⟩
  | .hbm, ⟨7, _⟩ => ⟨S16x8192, .i32⟩
  | .hbm, ⟨8, _⟩ => ⟨S16x8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16x8192, .i32⟩
  | .hbm, ⟨13, _⟩ => ⟨S16x8192, .i32⟩
  | .hbm, ⟨14, _⟩ => ⟨S_, .i32⟩
  | .hbm, ⟨15, _⟩ => ⟨S16x8192, .i32⟩
  | .hbm, ⟨16, _⟩ => ⟨S16x8192, .i32⟩
  | .hbm, ⟨17, _⟩ => ⟨S16x1x8192, .i32⟩
  | .hbm, ⟨18, _⟩ => ⟨S16x256x8192, .i32⟩
  | .hbm, ⟨19, _⟩ => ⟨S_, .i32⟩
  | .hbm, ⟨20, _⟩ => ⟨S16x256x8192, .i32⟩
  | .hbm, ⟨21, _⟩ => ⟨S16x256x8192, .i1⟩
  | .hbm, ⟨22, _⟩ => ⟨S_, .i32⟩
  | .hbm, ⟨23, _⟩ => ⟨S16x256x8192, .i32⟩
  | .hbm, ⟨24, _⟩ => ⟨S16x256x8192, .i32⟩
  | .hbm, ⟨25, _⟩ => ⟨S16x256x8192, .i32⟩
  | .hbm, ⟨26, _⟩ => ⟨S16x256x8192x1, .i32⟩
  | .hbm, ⟨27, _⟩ => ⟨S1, .i32⟩
  | .hbm, ⟨28, _⟩ => ⟨S_, .i32⟩
  | .hbm, ⟨29, _⟩ => ⟨S16x256x8192x1, .i32⟩
  | .hbm, ⟨30, _⟩ => ⟨S16x256x8192x1, .i1⟩
  | .hbm, ⟨31, _⟩ => ⟨S1x1x1x1, .i32⟩
  | .hbm, ⟨32, _⟩ => ⟨S16x256x8192x1, .i32⟩
  | .hbm, ⟨33, _⟩ => ⟨S16x256x8192x1, .i1⟩
  | .hbm, ⟨34, _⟩ => ⟨S16x256x8192x1, .i1⟩
  | .hbm, ⟨35, _⟩ => ⟨S_, .i1⟩
  | .hbm, ⟨36, _⟩ => ⟨S16x256x8192, .i1⟩
  | .hbm, ⟨37, _⟩ => ⟨S16x256x8192, .f32⟩
  | .hbm, ⟨38, _⟩ => ⟨S_, .f32⟩
  | .hbm, ⟨39, _⟩ => ⟨S16x256x8192, .f32⟩
  | .hbm, ⟨40, _⟩ => ⟨S16x256x8192, .f32⟩
  | _, _ => ⟨S16x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v9 : Ref sig .tc := ⟨.hbm, 40, rfl⟩

abbrev nD : Nat := 1
abbrev τ : Topo := Topo.v7x

variable {F : FTy → Type} [FloatOps F]
-- ==== Proof.Meaning.lean ====
/-
  What the kernel computes, stated of plain functions of indices. Every batch row `b` and every output position `t` names
  one SOURCE LANE, `clip (t - 1 + offset, 0, 8191)` with the sum taken in 32-bit words; the result at `(b, d, t)` is the
  input at `(b, d, lane)`. Beside that meaning stand the two intermediate functions the kernel goes through: the pair of
  rows a copy brings into a slot, and what gathering that pair along the lanes leaves.
-/
module

public import proofs.«01_k».proof.Proof.Gen.KernelIdeal
public import Idealize.ShloMosaic.Lib.Pointwise.Index

@[expose] public section

noncomputable section

namespace Cert.Proof

open Idealize.ShloMosaic
open Cert.KernelIdeal

/-- The word naming the source lane of position `t` whose offset is `w`: `w - 1 + t` clipped to `0 .. 8191`. -/
def laneWord (w : BitVec 32) (t : ℕ) : BitVec 32 :=
  IntOp.minsi (IntOp.maxsi (w - 1#32 + BitVec.ofNat 32 t) 0#32) 8191#32

/-- A signed clip to `0 .. 8191` lands below 8192 as an unsigned word. -/
theorem clip_lt (u : BitVec 32) : (IntOp.minsi (IntOp.maxsi u 0#32) 8191#32).toNat < 8192 := by
  have h0 : (0#32).slt 8191#32 = true := by decide
  unfold IntOp.minsi IntOp.maxsi
  by_cases h : (0#32).slt u
  · rw [if_pos h]
    by_cases h' : u.slt 8191#32
    · rw [if_pos h']
      rw [BitVec.slt_iff_toInt_lt] at h h'
      have e0 : (0#32).toInt = 0 := by decide
      have e1 : (8191#32).toInt = 8191 := by decide
      have e : u.toInt = if 2 * u.toNat < 2 ^ 32 then (u.toNat : ℤ) else (u.toNat : ℤ) - (2 ^ 32 : ℕ) := BitVec.toInt_eq_toNat_cond u
      split at e <;> omega
    · rw [if_neg h']; decide
  · rw [if_neg h, if_pos h0]; decide

/-- The source lane's word is below the row length. -/
theorem laneWord_lt (w : BitVec 32) (t : ℕ) : (laneWord w t).toNat < 8192 := clip_lt _

/-- A lane word as a position of a row (words past the row never occur, by `laneWord_lt`). -/
def lane (w : BitVec 32) : Fin 8192 := Fin.ofNat 8192 w.toNat

/-- A lane word's position is its value. -/
theorem lane_val {w : BitVec 32} (h : w.toNat < 8192) : (lane w).val = w.toNat := Nat.mod_eq_of_lt h

/-- The lane words of batch row `s`. -/
def laneRow (O : S16x8192.Idx → BitVec 32) (s : Fin 16) (j : S8192.Idx) : BitVec 32 := laneWord (O (ix2 s (j 0))) (j 0).val

variable {α : Type}

/-- The kernel's result from its input `X` and its offsets `O`. -/
def result (X : S16x256x8192.Idx → α) (O : S16x8192.Idx → BitVec 32) (p : S16x256x8192.Idx) : α :=
  X (ix3 (p 0) (p 1) (lane (laneWord (O (ix2 (p 0) (p 2))) (p 2).val)))

/-- Row `lo + a` of the 256 feature rows. -/
def rowAt (lo : ℕ) (a : Fin 2) : Fin 256 := Fin.ofNat 256 (lo + a.val)

/-- The row's number, when both rows exist. -/
theorem rowAt_val {lo : ℕ} (h : lo + 2 ≤ 256) (a : Fin 2) : (rowAt lo a).val = lo + a.val :=
  Nat.mod_eq_of_lt (by have := a.isLt; omega)

/-- The two feature rows `lo` and `lo + 1` of batch row `s`: what one copy brings in. -/
def rowPair (X : S16x256x8192.Idx → α) (s : Fin 16) (lo : ℕ) (j : S2x8192.Idx) : α := X (ix3 s (rowAt lo (j 0)) (j 1))

/-- Two rows gathered along the lanes `w`. -/
def gathered (v : S2x8192.Idx → α) (w : S8192.Idx → BitVec 32) (j : S2x8192.Idx) : α := v (ix2 (j 0) (lane (w (ix1 (j 1)))))

/-- Gathering a pair of input rows along its batch row's lanes gives that pair of rows of the result. -/
theorem gathered_rowPair (X : S16x256x8192.Idx → α) (O : S16x8192.Idx → BitVec 32) (s : Fin 16) (lo : ℕ) :
    gathered (rowPair X s lo) (laneRow O s) = rowPair (result X O) s lo := rfl

end Cert.Proof
-- ==== Proof.Regions.lean ====
/-
  The parts of the two large arrays a task holds at a time. Every part is a stretch of feature rows of one batch row,
  `stretch s lo hi`; a copy moves the stretch of two rows its slice names (`unit_set`, `unit_emb`).
-/
module

public import proofs.«01_k».proof.Proof.Meaning
public import Idealize.ShloMosaic.Lib.ValueLayout

@[expose] public section

noncomputable section

namespace Cert.Proof

open Idealize.ShloMosaic
open Cert.KernelIdeal

/-- Feature rows `lo .. hi - 1` of batch row `s`. -/
def stretch (s lo hi : ℕ) : Finset S16x256x8192.Idx :=
  Finset.univ.filter fun p => (p 0).val = s ∧ lo ≤ (p 1).val ∧ (p 1).val < hi

/-- Which elements a stretch has. -/
theorem mem_stretch {s lo hi : ℕ} {p : S16x256x8192.Idx} :
    p ∈ stretch s lo hi ↔ (p 0).val = s ∧ lo ≤ (p 1).val ∧ (p 1).val < hi := by simp [stretch]

/-- A stretch cut in two. -/
theorem stretch_cut {s lo mid hi : ℕ} (h : lo ≤ mid) (h' : mid ≤ hi) : stretch s lo hi = stretch s lo mid ∪ stretch s mid hi := by
  ext p; rw [Finset.mem_union, mem_stretch, mem_stretch, mem_stretch]; omega

/-- The two parts of a cut stretch share no element. -/
theorem stretch_disjoint (s lo mid hi : ℕ) : Disjoint (stretch s lo mid) (stretch s mid hi) :=
  Finset.disjoint_left.mpr fun p h h' => by rw [mem_stretch] at h h'; omega

/-- A stretch of no rows. -/
theorem stretch_self (s lo : ℕ) : stretch s lo lo = ∅ := by
  ext p; rw [mem_stretch]; simp

section Slices
variable {off : Fin 3 → ℕ} {inb : ∀ a, off a + S1x2x8192.size a ≤ S16x256x8192.size a} {s lo : ℕ}

/-- The elements of a slice of two rows at `(s, lo, 0)`. -/
theorem unit_set (h : ∀ a, off a = (![s, lo, 0] : Fin 3 → ℕ) a) :
    (Rect.unit (s := S16x256x8192) off S1x2x8192.size inb).set = stretch s lo (lo + 2) := by
  ext p
  rw [Rect.mem_set_unit, mem_stretch]
  have h0 := h 0; have h1 := h 1; have h2 := h 2
  have p2 : (p 2).val < 8192 := (p 2).isLt
  constructor
  · intro H
    have H0 := H 0; have H1 := H 1
    rw [h0] at H0; rw [h1] at H1
    simp at H0 H1
    omega
  · rintro ⟨e0, e1, e2⟩ a
    rw [h a]
    fin_cases a <;> simp <;> omega

/-- Where element `j` of the squeezed slice lies. -/
theorem unit_emb (h : ∀ a, off a = (![s, lo, 0] : Fin 3 → ℕ) a) (hs : s < 16)
    (hn : S2x8192.numel = (Rect.unit (s := S16x256x8192) off S1x2x8192.size inb).shape.numel) (j : S2x8192.Idx) :
    (Rect.unit (s := S16x256x8192) off S1x2x8192.size inb).emb (Shape.reshapeEquiv hn j) = ix3 (⟨s, hs⟩ : Fin 16) (rowAt lo (j 0)) (j 1) := by
  have hlo : lo + 2 ≤ 256 := by have := inb 1; rw [h 1] at this; simpa using this
  have e : Shape.reshapeEquiv hn j = ix3 (n0 := 1) (n1 := 2) (n2 := 8192) ⟨0, Nat.one_pos⟩ (j 0) (j 1) := by
    conv_lhs => rw [eq_ix2 (n0 := 2) (n1 := 8192) j]
    exact ValueIdx.reshapeEquiv_ix2_1ab (a := 2) (b := 8192) hn (j 0) (j 1)
  rw [e]
  funext a
  apply Fin.ext
  rw [Rect.emb_apply]
  show off a + 1 * _ = _
  rw [h a]
  fin_cases a
  · show s + 1 * 0 = s; omega
  · show lo + 1 * (j 0).val = (rowAt lo (j 0)).val
    refine Eq.trans ?_ (rowAt_val hlo (j 0)).symm
    show lo + 1 * (j 0).val = lo + (j 0).val; omega
  · show 0 + 1 * (j 1).val = (j 1).val; omega

end Slices

end Cert.Proof
-- ==== Proof.Offsets.lean ====
/-
  The offsets the kernel slices at and the conditions it branches on, in closed form. The task of SparseCore `c`, tile
  `s` works on batch row `s` and feature rows `128c .. 128c + 127`, two rows at a time: pair `g` is rows `128c + 2g` and
  the next. Trip `t` of the kernel's outer loop works on pairs `4t .. 4t + 3`.
-/
module

public import proofs.«01_k».proof.Proof.Gen.KernelIdeal

@[expose] public section

namespace Cert.Proof

open Idealize.ShloMosaic
open Cert.KernelIdeal

/-- The first row of pair `g` of SparseCore `c`. -/
abbrev pairLo (c g : ℕ) : ℕ := 128 * c + 2 * g

/-- The copies outside the outer loop: pairs 0, 1, 2 in, pairs 62, 63 out. -/
theorem off1_eq : ∀ (L : grid0.Coords) (r : Fin 5) (a : Fin 3),
    k0_off1 L (k0_off1_at r) a = (![(L 1).val, pairLo (L 0).val ((![0, 1, 2, 62, 63] : Fin 5 → ℕ) r), 0] : Fin 3 → ℕ) a := by
  decide +kernel

/-- The offsets' own row. -/
theorem off2_eq : ∀ (L : grid0.Coords) (a : Fin 2), k0_off2 L a = (![(L 1).val, 0] : Fin 2 → ℕ) a := by decide +kernel

/-- The pair trip `t` handles in its step `r`. -/
theorem off5_eq : ∀ (L : grid0.Coords) (t : Fin k0_t2_loop.trips) (r : Fin 4) (a : Fin 3),
    k0_off5 L t (BitVec.ofNat 32 r.val) a = (![(L 1).val, pairLo (L 0).val (4 * t.val + r.val), 0] : Fin 3 → ℕ) a := by
  decide +kernel

/-- The pairs fetched ahead, step by step. -/
theorem off4_eq : ∀ (L : grid0.Coords) (t : Fin k0_t2_loop.trips) (a : Fin 3),
    k0_off4 L t a = (![(L 1).val, pairLo (L 0).val (4 * t.val + 3), 0] : Fin 3 → ℕ) a := by decide +kernel
@[inherit_doc off4_eq]
theorem off10_eq : ∀ (L : grid0.Coords) (t : Fin k0_t2_loop.trips) (a : Fin 3),
    k0_off10 L t a = (![(L 1).val, pairLo (L 0).val (4 * t.val + 4), 0] : Fin 3 → ℕ) a := by decide +kernel
@[inherit_doc off4_eq]
theorem off15_eq : ∀ (L : grid0.Coords) (t : Fin k0_t2_loop.trips) (a : Fin 3),
    k0_off15 L t a = (![(L 1).val, pairLo (L 0).val (4 * t.val + 5), 0] : Fin 3 → ℕ) a := by decide +kernel
@[inherit_doc off4_eq]
theorem off20_eq : ∀ (L : grid0.Coords) (t : Fin k0_t2_loop.trips) (a : Fin 3),
    k0_off20 L t a = (![(L 1).val, pairLo (L 0).val (4 * t.val + 6), 0] : Fin 3 → ℕ) a := by decide +kernel

/-- When the fetches ahead happen: always in the first step, in the others whenever another trip follows. -/
theorem cond1_true : ∀ t : Fin k0_t2_loop.trips, k0_cond1 t = 1#1 := by decide +kernel
@[inherit_doc cond1_true]
theorem cond3_iff : ∀ t : Fin k0_t2_loop.trips, k0_cond3 t = 1#1 ↔ t.val < 15 := by decide +kernel
@[inherit_doc cond1_true]
theorem cond5_iff : ∀ t : Fin k0_t2_loop.trips, k0_cond5 t = 1#1 ↔ t.val < 15 := by decide +kernel
@[inherit_doc cond1_true]
theorem cond7_iff : ∀ t : Fin k0_t2_loop.trips, k0_cond7 t = 1#1 ↔ t.val < 15 := by decide +kernel

/-- When an earlier copy out is waited for: in the first two steps from the second trip on, in the last two always. -/
theorem cond2_iff : ∀ t : Fin k0_t2_loop.trips, k0_cond2 t = 1#1 ↔ 1 ≤ t.val := by decide +kernel
@[inherit_doc cond2_iff]
theorem cond4_iff : ∀ t : Fin k0_t2_loop.trips, k0_cond4 t = 1#1 ↔ 1 ≤ t.val := by decide +kernel
@[inherit_doc cond2_iff]
theorem cond6_true : ∀ t : Fin k0_t2_loop.trips, k0_cond6 t = 1#1 := by decide +kernel
@[inherit_doc cond2_iff]
theorem cond8_true : ∀ t : Fin k0_t2_loop.trips, k0_cond8 t = 1#1 := by decide +kernel

end Cert.Proof
-- ==== Proof.Setup.lean ====
/-
  The program as the launch theorem sees it, the algebra its proof uses, and the pieces of memory a task holds: its
  scratch buffers by what they read as, and its stretches of the input and of the result.
-/
module

public import proofs.«01_k».proof.Defs
public import proofs.«01_k».proof.Proof.Regions
public import proofs.«01_k».proof.Proof.Offsets
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's calls. -/
abbrev ΛP : Labels := Pipeline.Sig Λ₀ (Fin 0) fun p => (pcfgs (F := F) p).Adm
/-- The SparseCore launch. -/
abbrev K : SparseCore.Cfg τ sig (ΛP (F := F)) 1 := sc (F := F)
/-- The table of bodies. -/
abbrev D [FloatOps F] : Defs nD τ sig (Elt F) (ΛP (F := F)) := Pipeline.defs pcfgs defs₀
/-- No loop of the bodies is unbounded, so no measure is stated. -/
abbrev 𝒱₀ : Variants := Variants.none
/-- The same for the whole program. -/
abbrev 𝒱 : Variants := 𝒱₀.lift
/-- The measure a task starts at. -/
abbrev v₀ : 𝒱.V := Sum.inl none

/-- The handshake semaphores are distinct, none is a kernel's own, and no scratch is shared between tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the copies' counters -/

/-- The handshakes' rounds. -/
abbrev UH : Type := URounds (GSem nD τ sig) ℕ
/-- Those beside the copies' counters. -/
abbrev UU : Type := UH × Counters

local notation "𝕄" => MT nD τ sig (HIx 1) (Elt F) ℕ UU ℕ

/-- Where the rounds stand in the whole. -/
abbrev EH : Emb UH (MT nD τ sig (HIx 1) (Elt F) ℕ UU ℕ) := embL

/-! ## The arrays and a task's memory -/

/-- The input as a task names it. -/
abbrev xW : Memref sig .scVector .hbm S16x256x8192 .f32 := Memref.whole main_arg0_scv
/-- The result as a task names it. -/
abbrev oW : Memref sig .scVector .hbm S16x256x8192 .f32 := Memref.whole main_v0_scv
/-- The offsets as a task names them. -/
abbrev fW : Memref sig .scVector .hbm S16x8192 .i32 := Memref.whole main_arg1_scv
/-- The scratch row of offsets, then of lanes. -/
abbrev idxS : Memref sig .scVector .vmem S8192 .i32 := Memref.whole cc0_scratch0
/-- The slots that pairs of input rows are copied into. -/
abbrev in0 : Memref sig .scVector .vmem S2x8192 .f32 := Memref.whole cc0_scratch1
@[inherit_doc in0]
abbrev in1 : Memref sig .scVector .vmem S2x8192 .f32 := Memref.whole cc0_scratch2
@[inherit_doc in0]
abbrev in2 : Memref sig .scVector .vmem S2x8192 .f32 := Memref.whole cc0_scratch3
@[inherit_doc in0]
abbrev in3 : Memref sig .scVector .vmem S2x8192 .f32 := Memref.whole cc0_scratch4
/-- The slots that gathered pairs are copied out of. -/
abbrev out0 : Memref sig .scVector .vmem S2x8192 .f32 := Memref.whole cc0_scratch5
@[inherit_doc out0]
abbrev out1 : Memref sig .scVector .vmem S2x8192 .f32 := Memref.whole cc0_scratch6

/-- The input, the offsets and the result, as locations of device `d`. -/
abbrev xLoc (d : Dev nD) : Loc nD τ sig := (SparseCore.T d).loc main_arg0
@[inherit_doc xLoc]
abbrev fLoc (d : Dev nD) : Loc nD τ sig := (SparseCore.T d).loc main_arg1
@[inherit_doc xLoc]
abbrev oLoc (d : Dev nD) : Loc nD τ sig := (SparseCore.T d).loc main_v0

/-- The thread of the task at grid point `L`: SparseCore `L 0`, tile `L 1`. -/
abbrev thr (d : Dev nD) (L : grid0.Coords) : Thread nD τ := V d ((L 0).castLE hcore0) ((L 1).castLE hsub0)

section Held
variable (d : Dev nD) (L : grid0.Coords)

/-- Scratch memref `b` held whole, reading as `v`. -/
def holds {s : Shape} {e : EltTy} (b : Memref sig .scVector .vmem s e) (v : s.Idx → Elt F e) : sProp 𝕄 :=
  iprop(∃ f : Buf (Elt F) (b.view.loc (thr d L)), ⌜b.view.read (Elt F) f = v⌝ ∗ (b.view.loc (thr d L) ↦[b.view.set]{fullShare} f))

/-- Scratch memref `b` held whole, whatever it holds. -/
def free {s : Shape} {e : EltTy} (b : Memref sig .scVector .vmem s e) : sProp 𝕄 := iprop(∃ v, holds (F := F) d L b v)

/-- A scratch memref of known contents is one of some contents. -/
theorem holds_free {s : Shape} {e : EltTy} (b : Memref sig .scVector .vmem s e) (v : s.Idx → Elt F e) :
    (holds d L b v : sProp 𝕄) ⊢ free d L b := by
  unfold free; iintro H; iexists v; iexact H

/-- Feature rows `lo .. hi - 1` of the task's batch row of the input, at contents `X`. -/
abbrev xPart (X : Buf (Elt F) (xLoc d)) (lo hi : ℕ) : sProp 𝕄 := xLoc d ↦[stretch (L 1).val lo hi]{fullShare} X

/-- Feature rows `lo .. hi - 1` of the task's batch row of the result, at contents `G`. -/
abbrev oPart (G : Buf (Elt F) (oLoc d)) (lo hi : ℕ) : sProp 𝕄 := oLoc d ↦[stretch (L 1).val lo hi]{fullShare} G

/-- A part of the input is the part before a row and the part from it on. -/
theorem xPart_cut (X : Buf (Elt F) (xLoc d)) {lo mid hi : ℕ} (h : lo ≤ mid) (h' : mid ≤ hi) :
    (xPart d L X lo hi : sProp 𝕄) ⊣⊢ iprop(xPart d L X lo mid ∗ xPart d L X mid hi) := by
  unfold xPart; rw [stretch_cut h h']; exact pointsTo_union (stretch_disjoint _ _ _ _)

/-- A part of the result is the part before a row and the part from it on. -/
theorem oPart_cut (G : Buf (Elt F) (oLoc d)) {lo mid hi : ℕ} (h : lo ≤ mid) (h' : mid ≤ hi) :
    (oPart d L G lo hi : sProp 𝕄) ⊣⊢ iprop(oPart d L G lo mid ∗ oPart d L G mid hi) := by
  unfold oPart; rw [stretch_cut h h']; exact pointsTo_union (stretch_disjoint _ _ _ _)

end Held

end Cert.Proof

end
-- ==== Proof.Slots.lean ====
/-
  Loads, indexed loads and stores of a scratch memref, by what the memref reads as (`holds`): a load returns a part of
  it, an indexed load the elements its indices name, a store changes exactly the elements it names.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Rules
variable [FloatOps F] (d : Dev nD) (L : grid0.Coords)
variable {s t : Shape} {e : EltTy} {b : Memref sig .scVector .vmem s e} {v : s.Idx → Elt F e}
  {α : Type} {Q : α → sProp (MT nD τ sig (HIx 1) (Elt F) ℕ UU ℕ)}

/-- A load of a rectangle of a scratch memref. -/
theorem load_holds {r : LoadRect s} {hl : b.view.LoadsAt r} {k : (r.shape.Idx → Elt F e) → Prog (TpuEff nD τ sig (Elt F) Λ₀ (thr d L).2) α} :
    (holds d L b v : sProp 𝕄)
      ⊢ iprop((holds d L b v -∗ wp frame (wpE (defs₀ (F := F)) 𝒱₀ (thr d L) none) Set.univ (k fun x => v (r.idx x)) Q)
          -∗ wp frame (wpE (defs₀ (F := F)) 𝒱₀ (thr d L) none) Set.univ (.op (.load b r hl) k) Q) := by
  unfold holds
  iintro ⟨%f, %hf, Hb⟩ Hk
  iapply (wp_load 𝒱₀ (thr d L) none Set.univ (m := b) (r := r) (S := b.view.set) (q := fullShare) (f := f) (View.setOn_subset_set _ _)) $$ Hb
  iintro Hb
  rw [show b.view.readAt (Elt F) r f = fun x => v (r.idx x) from by rw [← hf]; rfl]
  iapply Hk
  iexists f
  isplitr
  · ipureintro; exact hf
  · iexact Hb

/-- An indexed load of a scratch memref. -/
theorem gather_holds {idxs : Fin s.rank → IVec t 32} {h : ∀ a x, (idxs a x).toNat < s.size a} {hl : b.view.Loads}
    {k : Vec F t e → Prog (TpuEff nD τ sig (Elt F) Λ₀ (thr d L).2) α} :
    (holds d L b v : sProp 𝕄)
      ⊢ iprop((holds d L b v -∗ wp frame (wpE (defs₀ (F := F)) 𝒱₀ (thr d L) none) Set.univ (k (loadIdx v idxs h)) Q)
          -∗ wp frame (wpE (defs₀ (F := F)) 𝒱₀ (thr d L) none) Set.univ (SparseCore.vectorLoadIdx b idxs h hl >>= k) Q) := by
  unfold holds
  iintro ⟨%f, %hf, Hb⟩ Hk
  iapply (SparseCore.wp_vectorLoadIdx 𝒱₀ (thr d L) none Set.univ (base := b) (S := b.view.set) (q := fullShare) (f := f)
    (View.set_slice_subset _ _)) $$ Hb
  iintro Hb
  rw [show (b.access (.whole s)).read (Elt F) f = v from by
    rw [← hf]; funext x
    show b.view.read (Elt F) f ((Rect.whole s).emb x) = _
    rw [Rect.emb_whole_apply]]
  iapply Hk
  iexists f
  isplitr
  · ipureintro; exact hf
  · iexact Hb

/-- A store to a rectangle of a scratch memref. -/
theorem store_holds {r : Rect s} {w : r.shape.Idx → Elt F e} {hx : (b.access r).Stores Finset.univ} {hm}
    {k : PUnit → Prog (TpuEff nD τ sig (Elt F) Λ₀ (thr d L).2) α} :
    (holds d L b v : sProp 𝕄)
      ⊢ iprop((∀ v' : s.Idx → Elt F e, ⌜(∀ x, v' (r.emb x) = w x) ∧ ∀ y, y ∉ r.set → v' y = v y⌝ -∗ holds d L b v' -∗
              wp frame (wpE (defs₀ (F := F)) 𝒱₀ (thr d L) none) Set.univ (k ⟨⟩) Q)
          -∗ wp frame (wpE (defs₀ (F := F)) 𝒱₀ (thr d L) none) Set.univ (.op (.store b r w Finset.univ hx hm) k) Q) := by
  unfold holds
  iintro ⟨%f, %hf, Hb⟩ Hk
  iapply (wp_store 𝒱₀ (thr d L) none Set.univ (m := b) (r := r) (Mk := Finset.univ) (S := b.view.set) (f := f)
    ((View.setOn_subset_set _ _).trans (View.set_slice_subset _ _))) $$ Hb
  iintro Hb
  ispecialize Hk $$ %(b.view.read (Elt F) ((b.access r).write (Elt F) f w Finset.univ))
  iapply Hk
  · ipureintro
    refine ⟨fun x => View.read_slice_write_emb _ _ _ (Finset.mem_univ x), fun y hy => ?_⟩
    rw [← hf]
    refine View.read_slice_write_of_not_mem (v := b.view) r f w Finset.univ ?_
    rw [Rect.map_emb_univ]; exact hy
  · iexists _
    isplitr
    rotate_left
    · iexact Hb
    · ipureintro; rfl

end Rules

end Cert.Proof

end
-- ==== Proof.Rects.lean ====
/-
  The rectangles the two inner loops access: sixteen words of the offsets' row, sixteen words of one row of a slot.
  Where an element of such a rectangle lies, and what a row of sixteen words stored there leaves behind.
-/
module

public import proofs.«01_k».proof.Proof.Slots

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The row of offsets holds sixteen words per trip. -/
theorem words_idx {off : Fin 1 → ℕ} {inb : ∀ a, off a + S16.size a ≤ S8192.size a} {t : ℕ} (h : off = ![16 * t]) (x : S16.Idx) :
    ((Rect.unit (s := S8192) off S16.size inb).toLoadRect.idx x 0).val = 16 * t + (x 0).val := by
  subst h
  show 16 * t + 1 * (x 0).val = _
  omega

/-- The words a store to those sixteen names. -/
theorem words_mem {off : Fin 1 → ℕ} {inb : ∀ a, off a + S16.size a ≤ S8192.size a} {t : ℕ} (h : off = ![16 * t]) (j : S8192.Idx) :
    j ∈ (Rect.unit (s := S8192) off S16.size inb).set ↔ 16 * t ≤ (j 0).val ∧ (j 0).val < 16 * t + 16 := by
  subst h
  rw [Rect.mem_set_unit]
  constructor
  · intro hj; exact hj 0
  · intro hj a
    match a with
    | 0 => exact hj

/-- Sixteen words of one row of a slot: which they are. -/
theorem rowWords_mem {off : Fin 2 → ℕ} {inb : ∀ a, off a + S1x16.size a ≤ S2x8192.size a} {r t : ℕ} (h : off = ![r, 16 * t]) (j : S2x8192.Idx) :
    j ∈ (Rect.unit (s := S2x8192) off S1x16.size inb).set ↔ (j 0).val = r ∧ 16 * t ≤ (j 1).val ∧ (j 1).val < 16 * t + 16 := by
  subst h
  rw [Rect.mem_set_unit]
  constructor
  · intro hj
    have h0 := hj 0
    have h1 := hj 1
    have e0 : r ≤ (j 0).val ∧ (j 0).val < r + 1 := h0
    exact ⟨by omega, h1⟩
  · rintro ⟨h0, h1⟩ a
    match a with
    | 0 => exact (show r ≤ (j 0).val ∧ (j 0).val < r + 1 from ⟨by omega, by omega⟩)
    | 1 => exact h1

/-- After sixteen words `w` are stored along row `r`, each word of them reads as the word of `w` it was stored from. -/
theorem rowWords_read {α : Type} {off : Fin 2 → ℕ} {inb : ∀ a, off a + S1x16.size a ≤ S2x8192.size a} {r t : ℕ} (h : off = ![r, 16 * t])
    {v' : S2x8192.Idx → α} {w : S16.Idx → α}
    (hv : ∀ x, v' ((Rect.unit (s := S2x8192) off S1x16.size inb).emb x) = shapeCast S1x16 w shapeCasts_S16_S1x16 x)
    (j : S2x8192.Idx) (h0 : (j 0).val = r) (h1 : 16 * t ≤ (j 1).val) (h2 : (j 1).val < 16 * t + 16) :
    v' j = w (ix1 (⟨(j 1).val - 16 * t, by omega⟩ : Fin 16)) := by
  subst h
  have hj : (Rect.unit (s := S2x8192) ![r, 16 * t] S1x16.size inb).emb (ix2 (0 : Fin 1) (⟨(j 1).val - 16 * t, by omega⟩ : Fin 16)) = j := by
    funext a
    refine Fin.ext ?_
    match a with
    | 0 => show r + 1 * 0 = (j 0).val; omega
    | 1 => show 16 * t + 1 * ((j 1).val - 16 * t) = (j 1).val; omega
  exact (congrArg v' hj).symm.trans ((hv _).trans (ValueIdx.shapeCast_a_1a_apply w _ 0 _))

end Cert.Proof

end
-- ==== Proof.Gather.lean ====
/-
  One chunk of the gather: sixteen lane words are loaded from the row of lanes, and for each of the two rows of the input
  slot the sixteen elements they name are stored along the same row of the output slot. The four gather loops of an outer
  trip run this same chunk on different slots, 512 times each; after them the output slot reads as the input slot
  gathered along the lanes.
-/
module

public import proofs.«01_k».proof.Proof.Rects

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Chunk
variable (L : grid0.Coords)

/-- Sixteen lane words, used along row `r` of a slot, name elements of the slot. -/
abbrev Lands (r : BitVec 32) (w : IVec S16 32) : Prop :=
  ∀ a x, ((![broadcast S16 r, w] : Fin 2 → IVec S16 32) a x).toNat < S2x8192.size a

/-- One chunk, over the row of lanes `ib`, the input slot `xb`, the output slot `ob` and the three offsets. -/
def chunk [FloatOps F] (ib : Memref sig .scVector .vmem S8192 .i32) (xb ob : Memref sig .scVector .vmem S2x8192 .f32)
    (o0 : Fin 1 → ℕ) (h0 : ∀ a, o0 a + S16.size a ≤ S8192.size a) (o1 : Fin 2 → ℕ) (h1 : ∀ a, o1 a + S1x16.size a ≤ S2x8192.size a)
    (o2 : Fin 2 → ℕ) (h2 : ∀ a, o2 a + S1x16.size a ≤ S2x8192.size a)
    (c0 : ∀ w, Decidable (Lands 0#32 w)) (c1 : ∀ w, Decidable (Lands 1#32 w)) :
    Prog (TpuEff nD τ sig (Elt F) Λ₀ (.scVector ((L 0).castLE hcore0) ((L 1).castLE hsub0))) Unit := do
  let w : Vec F S16 .i32 ← Prog.lift (.load ib (Rect.unit (s := S8192) o0 S16.size h0).toLoadRect (View.loadsAt_vmem h_S16))
  have l0 : Lands 0#32 w := (← Prog.lift (TpuEff.assume (Lands 0#32 w) (c0 w))).down
  let g0 : Vec F S16 .f32 ← SparseCore.vectorLoadIdx xb ![broadcast S16 0#32, w] l0 (View.loads_vmem h_S2x8192)
  let _ : Vec F S1x16 .f32 ← Prog.lift (.load ob (Rect.unit (s := S2x8192) o1 S1x16.size h1).toLoadRect (View.loadsAt_vmem h_S1x16))
  Prog.lift (.store ob (Rect.unit (s := S2x8192) o1 S1x16.size h1) (shapeCast S1x16 g0 shapeCasts_S16_S1x16) Finset.univ (View.stores_vmem_bits_univ h_S1x16 rfl) (.inl rfl))
  have l1 : Lands 1#32 w := (← Prog.lift (TpuEff.assume (Lands 1#32 w) (c1 w))).down
  let g1 : Vec F S16 .f32 ← SparseCore.vectorLoadIdx xb ![broadcast S16 1#32, w] l1 (View.loads_vmem h_S2x8192)
  let _ : Vec F S1x16 .f32 ← Prog.lift (.load ob (Rect.unit (s := S2x8192) o2 S1x16.size h2).toLoadRect (View.loadsAt_vmem h_S1x16))
  Prog.lift (.store ob (Rect.unit (s := S2x8192) o2 S1x16.size h2) (shapeCast S1x16 g1 shapeCasts_S16_S1x16) Finset.univ (View.stores_vmem_bits_univ h_S1x16 rfl) (.inl rfl))
  pure ⟨⟩

/-- Words below the row length, used along either row, name elements of a slot. -/
theorem lands_of_lt {r : BitVec 32} (hr : r.toNat < 2) {w : IVec S16 32} (hw : ∀ x, (w x).toNat < 8192) : Lands r w := by
  intro a x
  match a with
  | 0 => exact hr
  | 1 => exact hw x

/-- What an indexed load along row `r` of a slot returns: word `x` is the slot's element at lane `w x`. -/
theorem gather_apply {r : BitVec 32} (v : S2x8192.Idx → Elt F .f32) {w : IVec S16 32} (h : Lands r w) (j0 : Fin 2) (hj : j0.val = r.toNat)
    (x : S16.Idx) (hw : (w x).toNat < 8192) : loadIdx (F := F) (e := .f32) v ![broadcast S16 r, w] h x = v (ix2 j0 (lane (w x))) := by
  refine congrArg v (funext fun a => Fin.ext ?_)
  match a with
  | 0 => exact hj.symm
  | 1 => exact (lane_val hw).symm

end Chunk

section Rules
variable [FloatOps F] (d : Dev nD) (L : grid0.Coords)
variable {ib : Memref sig .scVector .vmem S8192 .i32} {xb ob : Memref sig .scVector .vmem S2x8192 .f32}
  {v : S2x8192.Idx → Elt F .f32} {w : S8192.Idx → BitVec 32}

/-- The output slot after `t` chunks: gathered before position `16 * t`. -/
def partly (ob : Memref sig .scVector .vmem S2x8192 .f32) (v : S2x8192.Idx → Elt F .f32) (w : S8192.Idx → BitVec 32) (t : ℕ) : sProp 𝕄 :=
  iprop(∃ v', ⌜∀ j, (j 1).val < 16 * t → v' j = gathered v w j⌝ ∗ holds d L ob v')

/-- One chunk takes the output slot from `t` chunks to `t + 1`. -/
theorem wp_chunk {o0 h0 o1 h1 o2 h2 c0 c1} {t : ℕ} (hw : ∀ j, (w j).toNat < 8192)
    (e0 : o0 = ![16 * t]) (e1 : o1 = ![0, 16 * t]) (e2 : o2 = ![1, 16 * t]) (ht : t < 512) :
    iprop(holds d L ib w ∗ holds d L xb v ∗ partly d L ob v w t)
      ⊢ wp frame (wpE (defs₀ (F := F)) 𝒱₀ (thr d L) none) Set.univ (chunk (F := F) L ib xb ob o0 h0 o1 h1 o2 h2 c0 c1)
          fun _ => iprop(holds d L ib w ∗ holds d L xb v ∗ partly d L ob v w (t + 1)) := by
  unfold partly
  iintro ⟨Hi, Hx, %u, %hu, Ho⟩
  unfold chunk
  iapply (load_holds d L) $$ Hi
  iintro Hi
  have hw' : ∀ x : S16.Idx, (w ((Rect.unit (s := S8192) o0 S16.size h0).toLoadRect.idx x)).toNat < 8192 := fun x => hw _
  iapply (Entails.of_eq (wp_assume_of 𝒱₀ (thr d L) none Set.univ (lands_of_lt (r := 0#32) (by decide) hw')).symm)
  dsimp only
  iapply (gather_holds d L (hl := View.loads_vmem h_S2x8192)) $$ Hx
  iintro Hx
  iapply (load_holds d L (hl := View.loadsAt_vmem h_S1x16)) $$ Ho
  iintro Ho
  iapply (store_holds d L) $$ Ho
  iintro %u1 %hu1 Ho
  iapply (Entails.of_eq (wp_assume_of 𝒱₀ (thr d L) none Set.univ (lands_of_lt (r := 1#32) (by decide) hw')).symm)
  dsimp only
  iapply (gather_holds d L (hl := View.loads_vmem h_S2x8192)) $$ Hx
  iintro Hx
  iapply (load_holds d L (hl := View.loadsAt_vmem h_S1x16)) $$ Ho
  iintro Ho
  iapply (store_holds d L) $$ Ho
  iintro %u2 %hu2 Ho
  iapply (Entails.of_eq (wp_pure ..).symm)
  imodintro
  isplitl [Hi]; · iexact Hi
  isplitl [Hx]; · iexact Hx
  iexists u2
  isplitr
  rotate_left
  · iexact Ho
  ipureintro
  intro j hj
  have hlane : ∀ (h : 16 * t ≤ (j 1).val) (h' : (j 1).val < 16 * t + 16),
      (Rect.unit (s := S8192) o0 S16.size h0).toLoadRect.idx (ix1 (⟨(j 1).val - 16 * t, by omega⟩ : Fin 16)) = ix1 (j 1) := by
    intro h h'
    funext a
    match a with
    | 0 => exact Fin.ext ((words_idx e0 _).trans (show 16 * t + ((j 1).val - 16 * t) = (j 1).val by omega))
  by_cases hlt : (j 1).val < 16 * t
  · have n1 : j ∉ (Rect.unit (s := S2x8192) o1 S1x16.size h1).set := fun hm => by have := (rowWords_mem e1 j).mp hm; omega
    have n2 : j ∉ (Rect.unit (s := S2x8192) o2 S1x16.size h2).set := fun hm => by have := (rowWords_mem e2 j).mp hm; omega
    rw [hu2.2 j n2, hu1.2 j n1, hu j hlt]
  · have hge : 16 * t ≤ (j 1).val := by omega
    have hlt' : (j 1).val < 16 * t + 16 := by omega
    have hj0 : (j 0).val < 2 := (j 0).isLt
    by_cases hr : (j 0).val = 0
    · have n2 : j ∉ (Rect.unit (s := S2x8192) o2 S1x16.size h2).set := fun hm => by have := (rowWords_mem e2 j).mp hm; omega
      rw [hu2.2 j n2, rowWords_read e1 hu1.1 j hr hge hlt']
      refine (gather_apply v (lands_of_lt (r := 0#32) (by decide) hw') (j 0) hr _ (hw' _)).trans ?_
      exact congrArg (fun i => v (ix2 (j 0) (lane (w i)))) (hlane hge hlt')
    · have hr1 : (j 0).val = 1 := by omega
      rw [rowWords_read e2 hu2.1 j hr1 hge hlt']
      refine (gather_apply v (lands_of_lt (r := 1#32) (by decide) hw') (j 0) hr1 _ (hw' _)).trans ?_
      exact congrArg (fun i => v (ix2 (j 0) (lane (w i)))) (hlane hge hlt')

/-- After all 512 chunks the output slot reads as the input slot gathered along the lanes. -/
theorem partly_full : (partly d L ob v w 512 : sProp 𝕄) ⊢ holds d L ob (gathered v w) := by
  unfold partly
  iintro ⟨%u, %hu, H⟩
  rw [show u = gathered v w from funext fun j => hu j (by have h : (j 1).val < 8192 := (j 1).isLt; omega)]
  iexact H

/-- Before any chunk nothing is asked of the output slot. -/
theorem free_partly : (free d L ob : sProp 𝕄) ⊢ partly d L ob v w 0 := by
  unfold partly free
  iintro ⟨%u, H⟩
  iexists u
  isplitr
  · ipureintro; intro j hj; omega
  · iexact H

end Rules

end Cert.Proof

end
-- ==== Proof.Chunks.lean ====
/-
  The four gather loops of an outer trip: each trip of each of them is one chunk (`Gather`) at its own slots.
-/
module

public import proofs.«01_k».proof.Proof.Gather

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Rules
variable [FloatOps F] (d : Dev nD) (L : grid0.Coords)

/-- What one trip of a gather loop, between input slot `xb` and output slot `ob`, is asked for: it takes the output slot
    from `t` chunks to `t + 1`, whatever the input slot and the row of lanes hold. -/
abbrev ChunkSpec (xb ob : Memref sig .scVector .vmem S2x8192 .f32) {n : ℕ}
    (body : Fin n → Unit → Prog (TpuEff nD τ sig (Elt F) Λ₀ (thr d L).2) Unit) : Prop :=
  ∀ (v : S2x8192.Idx → Elt F .f32) (w : S8192.Idx → BitVec 32), (∀ j, (w j).toNat < 8192) → ∀ (t : Fin n) (acc : Unit),
    iprop(holds d L idxS w ∗ holds d L xb v ∗ partly d L ob v w t.val)
      ⊢ wp frame (wpE (defs₀ (F := F)) 𝒱₀ (thr d L) none) Set.univ (body t acc)
          fun _ => iprop(holds d L idxS w ∗ holds d L xb v ∗ partly d L ob v w (t.val + 1))

/-- A trip of the gather loop between in0 and out0. -/
theorem chunk_t3 (c29 c23 c24 : BitVec 32) (t2 : Fin k0_t2_loop.trips) :
    ChunkSpec d L in0 out0 (k0_t3_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0 c29 c23 c24 t2) := by
  intro v w hw t acc
  exact wp_chunk d L (ib := idxS) (xb := in0) (ob := out0) (h0 := k0_off7_inb t) (h1 := k0_off8_inb t) (h2 := k0_off9_inb t)
    (c0 := fun u => k0_chk1.dec u _) (c1 := fun u => k0_chk2.dec u _)
    hw (k0_off7_eq t) (k0_off8_eq t) (k0_off9_eq t) (lt_of_lt_of_eq t.isLt (by decide))

/-- A trip of the gather loop between in1 and out1. -/
theorem chunk_t4 (c29 : BitVec 32) (t2 : Fin k0_t2_loop.trips) (c18 c80 : BitVec 32) :
    ChunkSpec d L in1 out1 (k0_t4_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0 c29 t2 c18 c80) := by
  intro v w hw t acc
  exact wp_chunk d L (ib := idxS) (xb := in1) (ob := out1) (h0 := k0_off12_inb t) (h1 := k0_off13_inb t) (h2 := k0_off14_inb t)
    (c0 := fun u => k0_chk3.dec u _) (c1 := fun u => k0_chk4.dec u _)
    hw (k0_off12_eq t) (k0_off13_eq t) (k0_off14_eq t) (lt_of_lt_of_eq t.isLt (by decide))

/-- A trip of the gather loop between in2 and out0. -/
theorem chunk_t5 :
    ChunkSpec d L in2 out0 (k0_t5_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0) := by
  intro v w hw t acc
  exact wp_chunk d L (ib := idxS) (xb := in2) (ob := out0) (h0 := k0_off17_inb t) (h1 := k0_off18_inb t) (h2 := k0_off19_inb t)
    (c0 := fun u => k0_chk5.dec u _) (c1 := fun u => k0_chk6.dec u _)
    hw (k0_off17_eq t) (k0_off18_eq t) (k0_off19_eq t) (lt_of_lt_of_eq t.isLt (by decide))

/-- A trip of the gather loop between in3 and out1. -/
theorem chunk_t6 :
    ChunkSpec d L in3 out1 (k0_t6_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0) := by
  intro v w hw t acc
  exact wp_chunk d L (ib := idxS) (xb := in3) (ob := out1) (h0 := k0_off22_inb t) (h1 := k0_off23_inb t) (h2 := k0_off24_inb t)
    (c0 := fun u => k0_chk7.dec u _) (c1 := fun u => k0_chk8.dec u _)
    hw (k0_off22_eq t) (k0_off23_eq t) (k0_off24_eq t) (lt_of_lt_of_eq t.isLt (by decide))

end Rules

end Cert.Proof

end
-- ==== Proof.Copies.lean ====
/-
  The task's copies. A copy in takes two feature rows of the input and a scratch slot and gives them back, at the wait,
  with the slot reading as those rows; a copy out takes a slot that reads as two rows of a target `G` and two rows of
  the result at whatever contents, and gives them back with those rows at `G`. In between stands the flight:
  `inFlight`, `outFlight`.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight)

variable {F : FTy → Type}

local notation "𝕄" => MT nD τ sig (HIx 1) (Elt F) ℕ UU ℕ

/-- Two feature rows of an array, as the kernel slices and squeezes them. -/
abbrev pairOf (M : Memref sig .scVector .hbm S16x256x8192 .f32) (off : Fin 3 → ℕ)
    (inb : ∀ a, off a + S1x2x8192.size a ≤ S16x256x8192.size a) : Memref sig .scVector .hbm S2x8192 .f32 :=
  (M.slice (Rect.unit (s := S16x256x8192) off S1x2x8192.size inb) (fun _ => rfl)).squeeze S2x8192 squeezes_S1x2x8192_S2x8192

section Pair
variable {off : Fin 3 → ℕ} {inb : ∀ a, off a + S1x2x8192.size a ≤ S16x256x8192.size a} {s lo : ℕ}

/-- The elements of the input that a pair of rows names. -/
theorem pairOf_x_set (h : ∀ a, off a = (![s, lo, 0] : Fin 3 → ℕ) a) : (pairOf xW off inb).view.set = stretch s lo (lo + 2) :=
  (View.set_reshape _ _).trans ((View.set_slice_whole _ _).trans (unit_set h))

/-- The elements of the result that a pair of rows names. -/
theorem pairOf_o_set (h : ∀ a, off a = (![s, lo, 0] : Fin 3 → ℕ) a) : (pairOf oW off inb).view.set = stretch s lo (lo + 2) :=
  (View.set_reshape _ _).trans ((View.set_slice_whole _ _).trans (unit_set h))

/-- What the two rows of the input read as. -/
theorem pairOf_x_read (h : ∀ a, off a = (![s, lo, 0] : Fin 3 → ℕ) a) (hs : s < 16) (X : S16x256x8192.Idx → Elt F .f32) :
    (pairOf xW off inb).view.read (Elt F) X = rowPair X ⟨s, hs⟩ lo := by
  funext j
  exact congrArg X (unit_emb h hs _ j)

/-- Two rows of the result overwritten with `G`'s are at `G`. -/
theorem pairOf_o_write (h : ∀ a, off a = (![s, lo, 0] : Fin 3 → ℕ) a) (hs : s < 16) (G f : S16x256x8192.Idx → Elt F .f32) :
    ∀ p ∈ (pairOf oW off inb).view.set, (pairOf oW off inb).view.write (Elt F) f (rowPair G ⟨s, hs⟩ lo) Finset.univ p = G p := by
  intro p hp
  obtain ⟨j, -, rfl⟩ := Finset.mem_map.mp hp
  rw [View.write_emb_of_mem _ _ (Finset.mem_univ j)]
  exact (congrArg G (unit_emb h hs _ j)).symm

end Pair

section Rules
variable [FloatOps F] (d : Dev nD) (L : grid0.Coords)

/-- The task's batch row. -/
abbrev rowOf : Fin 16 := ⟨(L 1).val, (L 1).isLt⟩

/-- A copy of feature rows `lo`, `lo + 1` into slot `b`, issued on `sm` and not yet waited for. -/
def inFlight (X : Buf (Elt F) (xLoc d)) (b : Memref sig .scVector .vmem S2x8192 .f32) (sm : DmaSem sig) (lo : ℕ) : sProp 𝕄 :=
  Flight countersEmb (thr d L) (.dma sm) none b.view.dmaCredit iprop(holds d L b (rowPair X (rowOf L) lo) ∗ xPart d L X lo (lo + 2))

/-- What one copy out of two rows counts. -/
abbrev outCredit : ℕ := (pairOf oW (fun _ => 0) (by decide)).view.dmaCredit

/-- A copy of slot `b` into feature rows `lo`, `lo + 1` of the result, issued on `sm` and not yet waited for; the slot
    read as those rows of `G`. -/
def outFlight (G : Buf (Elt F) (oLoc d)) (b : Memref sig .scVector .vmem S2x8192 .f32) (sm : DmaSem sig) (lo : ℕ) : sProp 𝕄 :=
  Flight countersEmb (thr d L) (.dma sm) none outCredit iprop(free d L b ∗ oPart d L G lo (lo + 2))

variable {b : Memref sig .scVector .vmem S2x8192 .f32} {sm : DmaSem sig} {off : Fin 3 → ℕ}
  {inb : ∀ a, off a + S1x2x8192.size a ≤ S16x256x8192.size a} {lo : ℕ}
  {α : Type} {k : PUnit → Prog (TpuEff nD τ sig (Elt F) Λ₀ (thr d L).2) α}
  {Q : α → sProp (MT nD τ sig (HIx 1) (Elt F) ℕ UU ℕ)}
  {O : CellTallies nD τ sig (HIx 1)} {W : Waits sig (HIx 1)}

/-- Issuing a copy in. -/
theorem start_in (X : Buf (Elt F) (xLoc d)) (h : ∀ a, off a = (![(L 1).val, lo, 0] : Fin 3 → ℕ) a) {hsrc hdst hsem} :
    iprop(xPart d L X lo (lo + 2) ∗ free d L b ∗ semVal (thr d L, .dma sm) 0)
      ⊢ iprop((inFlight d L X b sm lo -∗ wp frame (wpE (defs₀ (F := F)) 𝒱₀ (thr d L) none) Set.univ (k ⟨⟩) Q)
          -∗ wp frame (wpE (defs₀ (F := F)) 𝒱₀ (thr d L) none) Set.univ
              (.op (.enqueueDma (pairOf xW off inb) (.here b) (.dma sm) hsrc hdst hsem) k) Q) := by
  unfold xPart free holds inFlight
  rw [← pairOf_x_set (inb := inb) h]
  iintro ⟨Hx, ⟨%v, %f, -, Hb⟩, Hs⟩ Hk
  iapply (Transfers.wp_dmaLocal countersEmb 𝒱₀ (thr d L) none (src := pairOf xW off inb) (dst := b) (Sd := b.view.set)
    (none : HIx 1) b.view.dmaCredit rfl (View.dmaCredit_pos _ (by decide)) (Finset.Subset.refl _)) $$ [Hx Hb Hs]
  · isplitl [Hx]; · iexact Hx
    isplitl [Hb]; · iexact Hb
    iexact Hs
  iintro Hfl
  iapply Hk
  iapply (Transfers.Flight_mono (D := _) (D' := _) countersEmb (thr d L) ?_) $$ Hfl
  iintro ⟨Hb, Hx⟩
  isplitl [Hb]
  · unfold holds
    iexists _
    isplitr
    rotate_left
    · iexact Hb
    · ipureintro
      funext j
      rw [View.read_apply, View.write_emb_of_mem _ _ (Finset.mem_univ j), cast_cast, cast_eq]
      exact congrFun (pairOf_x_read (inb := inb) h (L 1).isLt X) j
  · unfold xPart
    rw [← pairOf_x_set (inb := inb) h]
    iexact Hx

/-- Waiting for a copy in. -/
theorem wait_in (X : Buf (Elt F) (xLoc d)) {src : Memref sig .scVector .hbm S2x8192 .f32} {hsrc hdst} :
    iprop(inFlight d L X b sm lo ∗ owes (thr d L) O W ∗ Transfers.MayWaits (thr d L) (none : HIx 1) O)
      ⊢ iprop((iprop((holds d L b (rowPair X (rowOf L) lo) ∗ xPart d L X lo (lo + 2)) ∗ semVal (thr d L, .dma sm) 0
              ∗ owes (thr d L) O (insert (SemLoc.dma sm, (none : HIx 1)) W))
            -∗ wp frame (wpE (defs₀ (F := F)) 𝒱₀ (thr d L) none) Set.univ (k ⟨⟩) Q)
          -∗ wp frame (wpE (defs₀ (F := F)) 𝒱₀ (thr d L) none) Set.univ (.op (.waitDma2 sm src b hsrc hdst) k) Q) := by
  unfold inFlight
  iintro ⟨Hf, HO, Hmw⟩ Hk
  ihave Hm := (Transfers.MayWaits.elim (.dma sm)) $$ Hmw
  iapply (Transfers.wp_waitLocalO countersEmb 𝒱₀ (thr d L) none (dstw := b) (none : HIx 1) rfl) $$ [Hf HO Hm]
  · isplitl [Hf]; · iexact Hf
    isplitl [HO] <;> iassumption
  iexact Hk

/-- Issuing a copy out. -/
theorem start_out (G g : Buf (Elt F) (oLoc d)) (h : ∀ a, off a = (![(L 1).val, lo, 0] : Fin 3 → ℕ) a) {hsrc hdst hsem} :
    iprop(holds d L b (rowPair (G : S16x256x8192.Idx → Elt F .f32) (rowOf L) lo) ∗ oPart d L g lo (lo + 2) ∗ semVal (thr d L, .dma sm) 0)
      ⊢ iprop((outFlight d L G b sm lo -∗ wp frame (wpE (defs₀ (F := F)) 𝒱₀ (thr d L) none) Set.univ (k ⟨⟩) Q)
          -∗ wp frame (wpE (defs₀ (F := F)) 𝒱₀ (thr d L) none) Set.univ
              (.op (.enqueueDma b (.here (pairOf oW off inb)) (.dma sm) hsrc hdst hsem) k) Q) := by
  unfold oPart holds outFlight
  rw [← pairOf_o_set (inb := inb) h]
  iintro ⟨⟨%f, %hf, Hb⟩, Ho, Hs⟩ Hk
  iapply (Transfers.wp_dmaLocal countersEmb 𝒱₀ (thr d L) none (src := b) (dst := pairOf oW off inb)
    (Sd := (pairOf oW off inb).view.set) (none : HIx 1) outCredit rfl (View.dmaCredit_pos _ (by decide)) (Finset.Subset.refl _)) $$ [Hb Ho Hs]
  · isplitl [Hb]; · iexact Hb
    isplitl [Ho]; · iexact Ho
    iexact Hs
  iintro Hfl
  iapply Hk
  iapply (Transfers.Flight_mono (D := _) (D' := _) countersEmb (thr d L) ?_) $$ Hfl
  iintro ⟨Ho, Hb⟩
  isplitl [Hb]
  · unfold free holds
    iexists _; iexists f
    isplitr
    · ipureintro; exact rfl
    · iexact Hb
  · unfold oPart
    rw [← pairOf_o_set (inb := inb) h]
    iapply (Entails.of_eq (pointsTo_congr ?_)) $$ Ho
    rw [hf]
    exact pairOf_o_write (inb := inb) h (L 1).isLt G g

/-- Waiting for a copy out. -/
theorem wait_out (G : Buf (Elt F) (oLoc d)) {src : Memref sig .scVector .vmem S2x8192 .f32} {hsrc hdst} :
    iprop(outFlight d L G b sm lo ∗ owes (thr d L) O W ∗ Transfers.MayWaits (thr d L) (none : HIx 1) O)
      ⊢ iprop((iprop((free d L b ∗ oPart d L G lo (lo + 2)) ∗ semVal (thr d L, .dma sm) 0
              ∗ owes (thr d L) O (insert (SemLoc.dma sm, (none : HIx 1)) W))
            -∗ wp frame (wpE (defs₀ (F := F)) 𝒱₀ (thr d L) none) Set.univ (k ⟨⟩) Q)
          -∗ wp frame (wpE (defs₀ (F := F)) 𝒱₀ (thr d L) none) Set.univ (.op (.waitDma2 sm src (pairOf oW off inb) hsrc hdst) k) Q) := by
  unfold outFlight
  iintro ⟨Hf, HO, Hmw⟩ Hk
  ihave Hm := (Transfers.MayWaits.elim (.dma sm)) $$ Hmw
  iapply (Transfers.wp_waitLocalO countersEmb 𝒱₀ (thr d L) none (dstw := pairOf oW off inb) (none : HIx 1) rfl) $$ [Hf HO Hm]
  · isplitl [Hf]; · iexact Hf
    isplitl [HO] <;> iassumption
  iexact Hk

end Rules

end Cert.Proof

end
-- ==== Proof.State.lean ====
/-
  Where a task stands between the steps of its pipeline, at pair `g` of its 64 pairs of feature rows. Four input slots
  take turns: three are being filled for pairs `g`, `g + 1`, `g + 2` and one is idle; two output slots take turns: each
  is being emptied of the pair it held two pairs ago. The input is split into the pairs not yet asked for and the pairs
  given back, the result into the pairs not yet written and the pairs written.
-/
module

public import proofs.«01_k».proof.Proof.Chunks
public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section State
variable (d : Dev nD) (L : grid0.Coords)
variable (X g0 : S16x256x8192.Idx → Elt F .f32) (Of : S16x8192.Idx → BitVec 32)

/-- Where pair `g`'s feature rows begin, for this task. -/
abbrev lo (g : ℕ) : ℕ := pairLo (L 0).val g

/-- The input of the pairs from `g` on. -/
def xTodo (g : ℕ) : sProp 𝕄 := xPart d L X (lo L (min g 64)) (lo L 64)
/-- The input of the pairs before `g`. -/
def xBack (g : ℕ) : sProp 𝕄 := xPart d L X (lo L 0) (lo L g)
/-- The result's rows of the pairs from `g` on, as the task found them. -/
def oTodo (g : ℕ) : sProp 𝕄 := oPart d L g0 (lo L g) (lo L 64)
/-- The result's rows of the pairs before `g`, written. -/
def oDone (g : ℕ) : sProp 𝕄 := oPart d L (result X Of) (lo L 0) (lo L g)

/-- An input slot pair `g` belongs to: being filled, or idle past the last pair. -/
def inS (b : Memref sig .scVector .vmem S2x8192 .f32) (sm : DmaSem sig) (g : ℕ) : sProp 𝕄 :=
  if g < 64 then inFlight d L X b sm (lo L g) else iprop(free d L b ∗ semVal (thr d L, .dma sm) 0)

/-- The output slot of pair `g`, before `g` is gathered: being emptied of pair `g - 2`, or still idle at the first two. -/
def outS (b : Memref sig .scVector .vmem S2x8192 .f32) (sm : DmaSem sig) (g : ℕ) : sProp 𝕄 :=
  if 2 ≤ g then outFlight d L (result X Of) b sm (lo L (g - 2)) else iprop(free d L b ∗ semVal (thr d L, .dma sm) 0)

/-- Before the first two pairs the output slots are idle. -/
theorem outS_idle {b : Memref sig .scVector .vmem S2x8192 .f32} {sm : DmaSem sig} {g : ℕ} (h : ¬ 2 ≤ g) :
    outS d L X Of b sm g = iprop(free d L b ∗ semVal (thr d L, .dma sm) 0) := if_neg h

/-- From the third pair on, the output slot is being emptied. -/
theorem outS_busy {b : Memref sig .scVector .vmem S2x8192 .f32} {sm : DmaSem sig} {g : ℕ} (h : 2 ≤ g) :
    outS d L X Of b sm g = outFlight d L (result X Of) b sm (lo L (g - 2)) := if_pos h

/-- Up to the last pair the input slot is being filled. -/
theorem inS_busy {b : Memref sig .scVector .vmem S2x8192 .f32} {sm : DmaSem sig} {g : ℕ} (h : g < 64) :
    inS d L X b sm g = inFlight d L X b sm (lo L g) := if_pos h

/-- Past the last pair the input slots are idle. -/
theorem inS_idle {b : Memref sig .scVector .vmem S2x8192 .f32} {sm : DmaSem sig} {g : ℕ} (h : ¬ g < 64) :
    inS d L X b sm g = iprop(free d L b ∗ semVal (thr d L, .dma sm) 0) := if_neg h

/-- The task owes nothing its waits could be waiting on, and has recorded only waits of the copies' level beyond `W`. -/
def clear (O : CellTallies nD τ sig (HIx 1)) (W : Waits sig (HIx 1)) : sProp 𝕄 :=
  iprop((∃ W', ⌜∀ p ∈ W', p ∈ W ∨ p.2 = none⌝ ∗ owes (thr d L) O W') ∗ Transfers.MayWaits (thr d L) (none : HIx 1) O)

/-- The slots' buffers and semaphores, in the order they take their turns. -/
structure Slots where
  (a b c e : Memref sig .scVector .vmem S2x8192 .f32)
  (sa sb sc se : DmaSem sig)
  (o p : Memref sig .scVector .vmem S2x8192 .f32)
  (so sp : DmaSem sig)

/-- The slots one pair later. -/
abbrev Slots.next (s : Slots) : Slots := ⟨s.b, s.c, s.e, s.a, s.sb, s.sc, s.se, s.sa, s.p, s.o, s.sp, s.so⟩

variable (s : Slots) (O : CellTallies nD τ sig (HIx 1)) (W : Waits sig (HIx 1))

/-- What no step of the pipeline changes. -/
def steady : sProp 𝕄 := iprop(holds d L idxS (laneRow Of (rowOf L)) ∗ clear d L O W)

/-- Between pairs, at pair `g`. -/
def atPair (g : ℕ) : sProp 𝕄 :=
  iprop(inS d L X s.a s.sa g ∗ inS d L X s.b s.sb (g + 1) ∗ inS d L X s.c s.sc (g + 2) ∗ (free d L s.e ∗ semVal (thr d L, .dma s.se) 0)
    ∗ xTodo d L X (g + 3) ∗ xBack d L X g ∗ outS d L X Of s.o s.so g ∗ outS d L X Of s.p s.sp (g + 1) ∗ oTodo d L g0 g ∗ oDone d L X Of (g - 2)
    ∗ steady d L Of O W)

/-- At pair `g`, once pair `g + 3` is asked for. -/
def asked (g : ℕ) : sProp 𝕄 :=
  iprop(inS d L X s.a s.sa g ∗ inS d L X s.b s.sb (g + 1) ∗ inS d L X s.c s.sc (g + 2) ∗ inS d L X s.e s.se (g + 3)
    ∗ xTodo d L X (g + 4) ∗ xBack d L X g ∗ outS d L X Of s.o s.so g ∗ outS d L X Of s.p s.sp (g + 1) ∗ oTodo d L g0 g ∗ oDone d L X Of (g - 2)
    ∗ steady d L Of O W)

/-- At pair `g`, once it has arrived and its output slot is empty. -/
def arrived (g : ℕ) : sProp 𝕄 :=
  iprop((holds d L s.a (rowPair X (rowOf L) (lo L g)) ∗ semVal (thr d L, .dma s.sa) 0) ∗ inS d L X s.b s.sb (g + 1) ∗ inS d L X s.c s.sc (g + 2)
    ∗ inS d L X s.e s.se (g + 3) ∗ xTodo d L X (g + 4) ∗ xBack d L X (g + 1) ∗ (free d L s.o ∗ semVal (thr d L, .dma s.so) 0)
    ∗ outS d L X Of s.p s.sp (g + 1) ∗ oTodo d L g0 g ∗ oDone d L X Of (g - 1) ∗ steady d L Of O W)

/-- At pair `g`, once its output slot holds the result's rows. -/
def ready (g : ℕ) : sProp 𝕄 :=
  iprop((free d L s.a ∗ semVal (thr d L, .dma s.sa) 0) ∗ inS d L X s.b s.sb (g + 1) ∗ inS d L X s.c s.sc (g + 2)
    ∗ inS d L X s.e s.se (g + 3) ∗ xTodo d L X (g + 4) ∗ xBack d L X (g + 1)
    ∗ (holds d L s.o (rowPair (result X Of) (rowOf L) (lo L g)) ∗ semVal (thr d L, .dma s.so) 0)
    ∗ outS d L X Of s.p s.sp (g + 1) ∗ oTodo d L g0 g ∗ oDone d L X Of (g - 1) ∗ steady d L Of O W)

end State

end Cert.Proof

end
-- ==== Proof.Steps.lean ====
/-
  The four steps of the pipeline at one pair: ask for the pair three ahead, wait for the pair and for its output slot,
  gather, and start the copy out. Each is stated for whatever follows it and for any turn of the slots.
-/
module

public import proofs.«01_k».proof.Proof.State

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Steps
variable [FloatOps F] (d : Dev nD) (L : grid0.Coords)
variable (X g0 : S16x256x8192.Idx → Elt F .f32) (Of : S16x8192.Idx → BitVec 32)
variable (s : Slots) (O : CellTallies nD τ sig (HIx 1)) (W : Waits sig (HIx 1))
variable {α : Type} {k : Prog (TpuEff nD τ sig (Elt F) Λ₀ (thr d L).2) α} {kk : Unit → Prog (TpuEff nD τ sig (Elt F) Λ₀ (thr d L).2) α}
  {Q : α → sProp (MT nD τ sig (HIx 1) (Elt F) ℕ UU ℕ)} {off off' : Fin 3 → ℕ} {c : BitVec 1} {g : ℕ}

/-- Asking for pair `g + 3`, if there is one. -/
theorem step_ask {inb : c = 1#1 → ∀ a, off a + S1x2x8192.size a ≤ S16x256x8192.size a} (he : s.e.view.WordExact) (hc : c = 1#1 ↔ g + 3 < 64)
    (h : g + 3 < 64 → ∀ a, off a = (![(L 1).val, lo L (g + 3), 0] : Fin 3 → ℕ) a)
    (hk : (asked d L X g0 Of s O W g : sProp 𝕄) ⊢ wp frame (wpE (defs₀ (F := F)) 𝒱₀ (thr d L) none) Set.univ k Q) :
    (atPair d L X g0 Of s O W g : sProp 𝕄)
      ⊢ wp frame (wpE (defs₀ (F := F)) 𝒱₀ (thr d L) none) Set.univ
              (if hh : c = 1#1 then Prog.lift (.enqueueDma (pairOf xW off (inb hh)) (.here s.e) (.dma s.se) ((View.wordExact_bits rfl).reshape _ _) he ⟨Or.inl rfl, trivial⟩) >>= fun _ => k
                else k) Q := by
  unfold atPair
  unfold asked at hk
  iintro ⟨Ha, Hb, Hc, ⟨He, Hse⟩, Hx, Hback, Hrest⟩
  by_cases hg : g + 3 < 64
  · rw [dif_pos (hc.mpr hg)]
    unfold xTodo
    rw [min_eq_left (by omega : g + 3 ≤ 64)]
    ihave Hx := (xPart_cut d L X (lo := lo L (g + 3)) (mid := lo L (g + 3) + 2) (hi := lo L 64) (by omega) (by unfold lo pairLo; omega)).1 $$ Hx
    icases Hx with ⟨Hx, Hx'⟩
    iapply (start_in d L (b := s.e) (sm := s.se) X (h hg)) $$ [Hx He Hse]
    · isplitl [Hx]; · iexact Hx
      isplitl [He]; · iexact He
      iexact Hse
    iintro Hfl
    iapply hk
    isplitl [Ha]; · iexact Ha
    isplitl [Hb]; · iexact Hb
    isplitl [Hc]; · iexact Hc
    isplitl [Hfl]
    · unfold inS; rw [if_pos hg]; iexact Hfl
    isplitl [Hx']
    · unfold xTodo; rw [min_eq_left (by omega : g + 4 ≤ 64)]; iexact Hx'
    isplitl [Hback]; · iexact Hback
    iexact Hrest
  · rw [dif_neg (fun hh => hg (hc.mp hh))]
    unfold xTodo
    rw [min_eq_right (by omega : 64 ≤ g + 3)]
    iapply hk
    isplitl [Ha]; · iexact Ha
    isplitl [Hb]; · iexact Hb
    isplitl [Hc]; · iexact Hc
    isplitl [He Hse]
    · unfold inS; rw [if_neg hg]
      isplitl [He]; · iexact He
      iexact Hse
    isplitl [Hx]
    · unfold xTodo; rw [min_eq_right (by omega : 64 ≤ g + 4)]; iexact Hx
    isplitl [Hback]; · iexact Hback
    iexact Hrest

/-- Recording one more wait of the copies' level. -/
theorem clear_insert {sm : DmaSem sig} {W' : Waits sig (HIx 1)} (hW : ∀ p ∈ W', p ∈ W ∨ p.2 = none) :
    iprop(owes (thr d L) O (insert (SemLoc.dma sm, (none : HIx 1)) W') ∗ Transfers.MayWaits (thr d L) (none : HIx 1) O)
      ⊢ (iprop((∃ W', ⌜∀ p ∈ W', p ∈ W ∨ p.2 = none⌝ ∗ owes (thr d L) O W') ∗ Transfers.MayWaits (thr d L) (none : HIx 1) O) : sProp 𝕄) := by
  iintro ⟨HO, Hmw⟩
  isplitl [HO]
  · iexists _
    isplitr
    rotate_left
    · iexact HO
    · ipureintro
      intro p hp
      rcases Finset.mem_insert.mp hp with rfl | hp
      · exact .inr rfl
      · exact hW p hp
  · iexact Hmw

/-- Waiting for pair `g`. -/
theorem wait_pair {b : Memref sig .scVector .vmem S2x8192 .f32} {sm : DmaSem sig} (hg : g < 64) {src : Memref sig .scVector .hbm S2x8192 .f32} {hsrc hdst} :
    iprop(inS d L X b sm g ∗ xBack d L X g ∗ clear d L O W)
      ⊢ iprop((iprop((holds d L b (rowPair X (rowOf L) (lo L g)) ∗ semVal (thr d L, .dma sm) 0) ∗ xBack d L X (g + 1) ∗ clear d L O W)
            -∗ wp frame (wpE (defs₀ (F := F)) 𝒱₀ (thr d L) none) Set.univ k Q)
          -∗ wp frame (wpE (defs₀ (F := F)) 𝒱₀ (thr d L) none) Set.univ (.op (.waitDma2 sm src b hsrc hdst) fun _ => k) Q) := by
  unfold inS clear xBack
  rw [if_pos hg]
  iintro ⟨Hf, Hback, ⟨%W', %hW, HO⟩, #Hmw⟩ Hk
  iapply (wait_in d L X) $$ [Hf HO]
  · isplitl [Hf]; · iexact Hf
    isplitl [HO]; · iexact HO
    iexact Hmw
  iintro ⟨⟨Hb, Hx⟩, Hs, HO⟩
  iapply Hk
  isplitl [Hb Hs]
  · isplitl [Hb]; · iexact Hb
    iexact Hs
  isplitl [Hback Hx]
  · iapply (xPart_cut d L X (lo := lo L 0) (mid := lo L g) (hi := lo L (g + 1)) (by unfold lo pairLo; omega) (by unfold lo pairLo; omega)).2
    isplitl [Hback]; · iexact Hback
    iexact Hx
  iapply (clear_insert d L O W hW)
  isplitl [HO]; · iexact HO
  iexact Hmw

/-- Waiting for the copy out of pair `g - 2`. -/
theorem wait_slot {b : Memref sig .scVector .vmem S2x8192 .f32} {sm : DmaSem sig} (hg : 2 ≤ g) {inb : ∀ a, off a + S1x2x8192.size a ≤ S16x256x8192.size a}
    {src : Memref sig .scVector .vmem S2x8192 .f32} {hsrc hdst} :
    iprop(outS d L X Of b sm g ∗ oDone d L X Of (g - 2) ∗ clear d L O W)
      ⊢ iprop((iprop((free d L b ∗ semVal (thr d L, .dma sm) 0) ∗ oDone d L X Of (g - 1) ∗ clear d L O W)
            -∗ wp frame (wpE (defs₀ (F := F)) 𝒱₀ (thr d L) none) Set.univ k Q)
          -∗ wp frame (wpE (defs₀ (F := F)) 𝒱₀ (thr d L) none) Set.univ (.op (.waitDma2 sm src (pairOf oW off inb) hsrc hdst) fun _ => k) Q) := by
  unfold outS clear oDone
  rw [if_pos hg]
  iintro ⟨Hf, Hdone, ⟨%W', %hW, HO⟩, #Hmw⟩ Hk
  iapply (wait_out d L (result X Of)) $$ [Hf HO]
  · isplitl [Hf]; · iexact Hf
    isplitl [HO]; · iexact HO
    iexact Hmw
  iintro ⟨⟨Hb, Ho⟩, Hs, HO⟩
  iapply Hk
  isplitl [Hb Hs]
  · isplitl [Hb]; · iexact Hb
    iexact Hs
  isplitl [Hdone Ho]
  · rw [show lo L (g - 1) = lo L (g - 2) + 2 from by unfold lo pairLo; omega]
    iapply (oPart_cut d L (result X Of) (lo := lo L 0) (mid := lo L (g - 2)) (hi := lo L (g - 2) + 2) (by unfold lo pairLo; omega) (by omega)).2
    isplitl [Hdone]; · iexact Hdone
    iexact Ho
  iapply (clear_insert d L O W hW)
  isplitl [HO]; · iexact HO
  iexact Hmw

/-- Waiting for pair `g`, and for its output slot if that slot was ever filled. -/
theorem step_wait {inb : c = 1#1 → ∀ a, off a + S1x2x8192.size a ≤ S16x256x8192.size a} {src : Memref sig .scVector .hbm S2x8192 .f32} {hsrc hdst} (ho : s.o.view.WordExact)
    (hg : g < 64) (hc : c = 1#1 ↔ 2 ≤ g)
    (hk : (arrived d L X g0 Of s O W g : sProp 𝕄) ⊢ wp frame (wpE (defs₀ (F := F)) 𝒱₀ (thr d L) none) Set.univ k Q) :
    (asked d L X g0 Of s O W g : sProp 𝕄)
      ⊢ wp frame (wpE (defs₀ (F := F)) 𝒱₀ (thr d L) none) Set.univ
              (.op (.waitDma2 s.sa src s.a hsrc hdst) fun _ =>
                if hh : c = 1#1 then Prog.lift (.waitDma2 s.so s.o (pairOf oW off (inb hh)) ho ((View.wordExact_bits rfl).reshape _ _)) >>= fun _ => k else k) Q := by
  unfold asked steady
  unfold arrived steady at hk
  iintro ⟨Ha, Hb, Hc, He, Hx, Hback, Ho, Hp, Htodo, Hdone, Hidx, Hcl⟩
  iapply (wait_pair d L X O W hg) $$ [Ha Hback Hcl]
  · isplitl [Ha]; · iexact Ha
    isplitl [Hback]; · iexact Hback
    iexact Hcl
  iintro ⟨Ha, Hback, Hcl⟩
  by_cases h2 : 2 ≤ g
  · rw [dif_pos (hc.mpr h2)]
    iapply (wait_slot d L X Of O W h2) $$ [Ho Hdone Hcl]
    · isplitl [Ho]; · iexact Ho
      isplitl [Hdone]; · iexact Hdone
      iexact Hcl
    iintro ⟨Ho, Hdone, Hcl⟩
    iapply hk
    isplitl [Ha]; · iexact Ha
    isplitl [Hb]; · iexact Hb
    isplitl [Hc]; · iexact Hc
    isplitl [He]; · iexact He
    isplitl [Hx]; · iexact Hx
    isplitl [Hback]; · iexact Hback
    isplitl [Ho]; · iexact Ho
    isplitl [Hp]; · iexact Hp
    isplitl [Htodo]; · iexact Htodo
    isplitl [Hdone]; · iexact Hdone
    isplitl [Hidx]; · iexact Hidx
    iexact Hcl
  · rw [dif_neg (fun hh => h2 (hc.mp hh))]
    iapply hk
    isplitl [Ha]; · iexact Ha
    isplitl [Hb]; · iexact Hb
    isplitl [Hc]; · iexact Hc
    isplitl [He]; · iexact He
    isplitl [Hx]; · iexact Hx
    isplitl [Hback]; · iexact Hback
    isplitl [Ho]
    · iapply (Entails.of_eq (outS_idle d L X Of h2)) $$ Ho
    isplitl [Hp]; · iexact Hp
    isplitl [Htodo]; · iexact Htodo
    isplitl [Hdone]
    · rw [show g - 1 = g - 2 from by omega]; iexact Hdone
    isplitl [Hidx]; · iexact Hidx
    iexact Hcl

/-- Gathering pair `g` in a loop of 512 chunks. -/
theorem step_gather {lp : Scf.Loop 32} (hn : lp.trips = 512) {hok : lp.OK}
    {body : Fin lp.trips → Unit → Prog (TpuEff nD τ sig (Elt F) Λ₀ (thr d L).2) Unit} (hb : ChunkSpec d L s.a s.o body)
    (hk : (ready d L X g0 Of s O W g : sProp 𝕄) ⊢ wp frame (wpE (defs₀ (F := F)) 𝒱₀ (thr d L) none) Set.univ (kk ()) Q) :
    (arrived d L X g0 Of s O W g : sProp 𝕄)
      ⊢ wp frame (wpE (defs₀ (F := F)) 𝒱₀ (thr d L) none) Set.univ (Scf.Loop.for lp hok () body >>= kk) Q := by
  unfold arrived steady
  unfold ready steady at hk
  iintro ⟨⟨Ha, Hsa⟩, Hb, Hc, He, Hx, Hback, ⟨Ho, Hso⟩, Hp, Htodo, Hdone, Hidx, Hcl⟩
  iapply (Scf.wp_for_bind frame (wpE (defs₀ (F := F)) 𝒱₀ (thr d L) none) Set.univ lp.lb lp.ub lp.st hok () body
    (fun t _ => iprop(holds d L idxS (laneRow Of (rowOf L)) ∗ holds d L s.a (rowPair X (rowOf L) (lo L g))
      ∗ partly d L s.o (rowPair X (rowOf L) (lo L g)) (laneRow Of (rowOf L)) t))
    (fun t acc => hb _ _ (fun j => laneWord_lt _ _) t acc)) $$ [Ha Ho Hidx]
  · isplitl [Hidx]; · iexact Hidx
    isplitl [Ha]; · iexact Ha
    iapply (free_partly d L); iexact Ho
  iintro %acc ⟨Hidx, Ha, Ho⟩
  rw [show Scf.trips lp.lb lp.ub lp.st = 512 from hn]
  ihave Ho := (partly_full d L) $$ Ho
  iapply hk
  isplitl [Ha Hsa]
  · isplitl [Ha]
    · iapply (holds_free d L s.a); iexact Ha
    iexact Hsa
  isplitl [Hb]; · iexact Hb
  isplitl [Hc]; · iexact Hc
  isplitl [He]; · iexact He
  isplitl [Hx]; · iexact Hx
  isplitl [Hback]; · iexact Hback
  isplitl [Ho Hso]
  · isplitl [Ho]
    · rw [gathered_rowPair]; iexact Ho
    iexact Hso
  isplitl [Hp]; · iexact Hp
  isplitl [Htodo]; · iexact Htodo
  isplitl [Hdone]; · iexact Hdone
  isplitl [Hidx]; · iexact Hidx
  iexact Hcl

/-- Starting the copy out of pair `g`: the slots take their next turn. -/
theorem step_out {inb : ∀ a, off a + S1x2x8192.size a ≤ S16x256x8192.size a} {hsrc hdst hsem} (hg : g < 64)
    (h : ∀ a, off a = (![(L 1).val, lo L g, 0] : Fin 3 → ℕ) a)
    (hk : (atPair d L X g0 Of s.next O W (g + 1) : sProp 𝕄) ⊢ wp frame (wpE (defs₀ (F := F)) 𝒱₀ (thr d L) none) Set.univ k Q) :
    (ready d L X g0 Of s O W g : sProp 𝕄)
      ⊢ wp frame (wpE (defs₀ (F := F)) 𝒱₀ (thr d L) none) Set.univ
              (.op (.enqueueDma s.o (.here (pairOf oW off inb)) (.dma s.so) hsrc hdst hsem) fun _ => k) Q := by
  unfold ready
  unfold atPair at hk
  iintro ⟨Ha, Hb, Hc, He, Hx, Hback, ⟨Ho, Hso⟩, Hp, Htodo, Hdone, Hst⟩
  unfold oTodo
  ihave Htodo := (oPart_cut d L g0 (lo := lo L g) (mid := lo L g + 2) (hi := lo L 64) (by omega) (by unfold lo pairLo; omega)).1 $$ Htodo
  icases Htodo with ⟨Hnow, Htodo⟩
  iapply (start_out d L (b := s.o) (sm := s.so) (result X Of) g0 h) $$ [Ho Hnow Hso]
  · isplitl [Ho]; · iexact Ho
    isplitl [Hnow]; · iexact Hnow
    iexact Hso
  iintro Hfl
  iapply hk
  isplitl [Hb]; · iexact Hb
  isplitl [Hc]; · iexact Hc
  isplitl [He]; · iexact He
  isplitl [Ha]; · iexact Ha
  isplitl [Hx]; · iexact Hx
  isplitl [Hback]; · iexact Hback
  isplitl [Hp]; · iexact Hp
  isplitl [Hfl]
  · unfold outS; rw [if_pos (by omega : 2 ≤ g + 1 + 1)]; iexact Hfl
  isplitl [Htodo]
  · unfold oTodo; iexact Htodo
  isplitl [Hdone]; · iexact Hdone
  iexact Hst

end Steps

end Cert.Proof

end
-- ==== Proof.Trip.lean ====
/-
  One trip of the outer loop is four pairs: the four steps of the pipeline four times over, the slots taking their turns
  and coming back to where they were. The whole loop takes a task from pair 0 to pair 64.
-/
module

public import proofs.«01_k».proof.Proof.Steps

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Trip
variable [FloatOps F] (d : Dev nD) (L : grid0.Coords)
variable (X g0 : S16x256x8192.Idx → Elt F .f32) (Of : S16x8192.Idx → BitVec 32)
variable (O : CellTallies nD τ sig (HIx 1)) (W : Waits sig (HIx 1))

/-- The slots as the kernel names them, at the start of a trip. -/
abbrev slots0 : Slots := ⟨in0, in1, in2, in3, cc0_scratch7.sem, cc0_scratch8.sem, cc0_scratch9.sem, cc0_scratch10.sem,
  out0, out1, cc0_scratch11.sem, cc0_scratch12.sem⟩

variable (t : Fin k0_t2_loop.trips)

/-- A trip's number is below 16. -/
theorem trip_lt : t.val < 16 := lt_of_lt_of_eq t.isLt (by decide)

set_option maxHeartbeats 2000000 in
/-- The first pair of a trip, up to asking for the pair four ahead. -/
theorem wp_part1 (c29 c23 c24 : BitVec 32) :
    (atPair d L X g0 Of slots0 O W (4 * t.val) : sProp 𝕄)
      ⊢ wp frame (wpE (defs₀ (F := F)) 𝒱₀ (thr d L) none) Set.univ
          (k0_part1 (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0 c29 c23 c24 t)
          fun _ => asked d L X g0 Of slots0.next O W (4 * t.val + 1) := by
  have ht := trip_lt t
  rw [k0_part1_eq_skeleton]
  unfold k0_part1_skel
  refine step_ask d L X g0 Of slots0 O W (c := k0_cond1 t) (off := k0_off4 L t) (g := 4 * t.val) (inb := k0_off4_inb L t) (Memref.isWhole_whole _).wordExact
    ⟨fun _ => by omega, fun _ => cond1_true t⟩ (fun _ => off4_eq L t) ?_
  refine step_wait d L X g0 Of slots0 O W (c := k0_cond2 t) (off := k0_off6 L t) (g := 4 * t.val) (inb := k0_off6_inb L t) (Memref.isWhole_whole _).wordExact (by omega)
    ((cond2_iff t).trans (by omega)) ?_
  refine step_gather d L X g0 Of slots0 O W (by decide) (chunk_t3 d L c29 c23 c24 t) ?_
  refine step_out d L X g0 Of slots0 O W (off := k0_off5 L t 0#32) (g := 4 * t.val) (inb := k0_off5_inb L t 0) (by omega) (off5_eq L t 0) ?_
  refine step_ask d L X g0 Of slots0.next O W (c := k0_cond3 t) (off := k0_off10 L t) (g := 4 * t.val + 1) (inb := k0_off10_inb L t) (Memref.isWhole_whole _).wordExact
    ((cond3_iff t).trans (by omega)) (fun h => off10_eq L t) ?_
  iintro H
  iapply (Entails.of_eq (wp_pure ..).symm)
  imodintro
  iexact H

set_option maxHeartbeats 2000000 in
/-- The rest of the second pair, and the third up to its arrival. -/
theorem wp_part2 (c29 c18 c80 : BitVec 32) :
    (asked d L X g0 Of slots0.next O W (4 * t.val + 1) : sProp 𝕄)
      ⊢ wp frame (wpE (defs₀ (F := F)) 𝒱₀ (thr d L) none) Set.univ
          (k0_part2 (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0 c29 t c18 c80)
          fun _ => arrived d L X g0 Of slots0.next.next O W (4 * t.val + 2) := by
  have ht := trip_lt t
  rw [k0_part2_eq_skeleton]
  unfold k0_part2_skel
  refine step_wait d L X g0 Of slots0.next O W (c := k0_cond4 t) (off := k0_off11 L t) (g := 4 * t.val + 1) (inb := k0_off11_inb L t) (Memref.isWhole_whole _).wordExact (by omega)
    ((cond4_iff t).trans (by omega)) ?_
  refine step_gather d L X g0 Of slots0.next O W (by decide) (chunk_t4 d L c29 t c18 c80) ?_
  refine step_out d L X g0 Of slots0.next O W (off := k0_off5 L t 1#32) (g := 4 * t.val + 1) (inb := k0_off5_inb L t 1) (by omega) (off5_eq L t 1) ?_
  refine step_ask d L X g0 Of slots0.next.next O W (c := k0_cond5 t) (off := k0_off15 L t) (g := 4 * t.val + 2) (inb := k0_off15_inb L t) (Memref.isWhole_whole _).wordExact
    ((cond5_iff t).trans (by omega)) (fun h => off15_eq L t) ?_
  refine step_wait d L X g0 Of slots0.next.next O W (c := k0_cond6 t) (off := k0_off16 L t) (g := 4 * t.val + 2) (inb := k0_off16_inb L t) (Memref.isWhole_whole _).wordExact (by omega)
    ⟨fun _ => by omega, fun _ => cond6_true t⟩ ?_
  iintro H
  iapply (Entails.of_eq (wp_pure ..).symm)
  imodintro
  iexact H

set_option maxHeartbeats 2000000 in
/-- One trip: four pairs. -/
theorem wp_trip (c29 : BitVec 32) (acc : Unit) :
    (atPair d L X g0 Of slots0 O W (4 * t.val) : sProp 𝕄)
      ⊢ wp frame (wpE (defs₀ (F := F)) 𝒱₀ (thr d L) none) Set.univ
          (k0_t2_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0 c29 t acc)
          fun _ => atPair d L X g0 Of slots0 O W (4 * (t.val + 1)) := by
  have ht := trip_lt t
  unfold k0_t2_body
  rw [wp_bind]
  refine (wp_part1 d L X g0 Of O W t _ _ _).trans (wp_mono _ _ _ fun r => ?_)
  obtain ⟨c18, c80⟩ := r
  dsimp only
  rw [wp_bind]
  refine (wp_part2 d L X g0 Of O W t _ _ _).trans (wp_mono _ _ _ fun r => ?_)
  refine step_gather d L X g0 Of slots0.next.next O W (by decide) (chunk_t5 d L) ?_
  refine step_out d L X g0 Of slots0.next.next O W (off := k0_off5 L t 2#32) (g := 4 * t.val + 2) (inb := k0_off5_inb L t 2) (by omega) (off5_eq L t 2) ?_
  refine step_ask d L X g0 Of slots0.next.next.next O W (c := k0_cond7 t) (off := k0_off20 L t) (g := 4 * t.val + 3) (inb := k0_off20_inb L t) (Memref.isWhole_whole _).wordExact
    ((cond7_iff t).trans (by omega)) (fun h => off20_eq L t) ?_
  refine step_wait d L X g0 Of slots0.next.next.next O W (c := k0_cond8 t) (off := k0_off21 L t) (g := 4 * t.val + 3) (inb := k0_off21_inb L t) (Memref.isWhole_whole _).wordExact (by omega)
    ⟨fun _ => by omega, fun _ => cond8_true t⟩ ?_
  refine step_gather d L X g0 Of slots0.next.next.next O W (by decide) (chunk_t6 d L) ?_
  refine step_out d L X g0 Of slots0.next.next.next O W (off := k0_off5 L t 3#32) (g := 4 * t.val + 3) (inb := k0_off5_inb L t 3) (by omega) (off5_eq L t 3) ?_
  iintro H
  iapply (Entails.of_eq (wp_pure ..).symm)
  imodintro
  iexact H

end Trip

end Cert.Proof

end
-- ==== Proof.RowCopy.lean ====
/-
  The task's row of offsets: the row's elements in the array of offsets, and the copy that brings it into scratch memory
  from a share of the array (two tasks read each row).
-/
module

public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The row of offsets as the kernel slices and squeezes it. -/
abbrev offRow (off : Fin 2 → ℕ) (inb : ∀ a, off a + S1x8192.size a ≤ S16x8192.size a) : Memref sig .scVector .hbm S8192 .i32 :=
  (fW.slice (Rect.unit (s := S16x8192) off S1x8192.size inb) (fun _ => rfl)).squeeze S8192 squeezes_S1x8192_S8192

/-- The elements of row `s` of the offsets. -/
def offSet (s : ℕ) : Finset S16x8192.Idx := Finset.univ.filter fun p => (p 0).val = s

/-- Which elements a row of offsets has. -/
theorem mem_offSet {s : ℕ} {p : S16x8192.Idx} : p ∈ offSet s ↔ (p 0).val = s := by simp [offSet]

section Row
variable {off : Fin 2 → ℕ} {inb : ∀ a, off a + S1x8192.size a ≤ S16x8192.size a} {s : ℕ}

/-- The elements of the offsets that the sliced row names. -/
theorem offRow_set (h : ∀ a, off a = (![s, 0] : Fin 2 → ℕ) a) : (offRow off inb).view.set = offSet s := by
  refine (View.set_reshape _ _).trans ((View.set_slice_whole _ _).trans ?_)
  ext p
  rw [Rect.mem_set_unit, mem_offSet]
  have h0 := h 0
  have p1 : (p 1).val < 8192 := (p 1).isLt
  constructor
  · intro H
    have H0 := H 0
    rw [h0] at H0
    simp at H0
    omega
  · rintro e a
    rw [h a]
    fin_cases a <;> simp <;> omega

/-- What the row reads as. -/
theorem offRow_read (h : ∀ a, off a = (![s, 0] : Fin 2 → ℕ) a) (hs : s < 16) (O : S16x8192.Idx → BitVec 32) (j : S8192.Idx) :
    (offRow off inb).view.read (Elt F) O j = O (ix2 (⟨s, hs⟩ : Fin 16) (j 0)) := by
  have hn : S8192.numel = (Rect.unit (s := S16x8192) off S1x8192.size inb).shape.numel := show S8192.numel = S1x8192.numel by decide
  have e : Shape.reshapeEquiv hn j = ix2 (n0 := 1) (n1 := 8192) ⟨0, Nat.one_pos⟩ (j 0) := by
    apply Shape.reshapeEquiv_eq_of_rowMajor
    refine (Shape.rowMajor_val_two (d := ![1, 8192]) _).trans (Eq.trans ?_ (Shape.rowMajor_val_one (d := ![8192]) j).symm)
    show 0 * 8192 + (j 0).val = (j 0).val
    omega
  show O ((Rect.unit (s := S16x8192) off S1x8192.size inb).emb (Shape.reshapeEquiv hn j)) = _
  rw [e]
  congr 1
  funext a
  apply Fin.ext
  rw [Rect.emb_apply]
  show off a + 1 * _ = _
  rw [h a]
  fin_cases a
  · show s + 1 * 0 = s; omega
  · show 0 + 1 * (j 0).val = (j 0).val; omega

end Row

section Rules
variable [FloatOps F] (d : Dev nD) (L : grid0.Coords) (Of : S16x8192.Idx → BitVec 32)

/-- The share of the offsets a SparseCore's tasks read: one half each. -/
def coreShare (c : ℕ) : PosShare TreeShare := if c = 0 then fullShare.left else fullShare.right

/-- The task's row of the offsets, at its SparseCore's share. -/
abbrev fPart : sProp 𝕄 := fLoc d ↦[offSet (L 1).val]{coreShare (L 0).val} (Of : Buf (Elt F) (fLoc d))

/-- The copy of the row into scratch memory, issued and not yet waited for. -/
def rowFlight (sm : DmaSem sig) : sProp 𝕄 :=
  Transfers.Flight countersEmb (thr d L) (.dma sm) none idxS.view.dmaCredit
    iprop(holds d L idxS (fun j => Of (ix2 (rowOf L) (j 0))) ∗ fPart (F := F) d L Of)

variable {sm : DmaSem sig} {off : Fin 2 → ℕ} {inb : ∀ a, off a + S1x8192.size a ≤ S16x8192.size a}
  {α : Type} {k : PUnit → Prog (TpuEff nD τ sig (Elt F) Λ₀ (thr d L).2) α}
  {Q : α → sProp (MT nD τ sig (HIx 1) (Elt F) ℕ UU ℕ)}
  {O : CellTallies nD τ sig (HIx 1)} {W : Waits sig (HIx 1)}

/-- Issuing the copy of the row. -/
theorem start_row (h : ∀ a, off a = (![(L 1).val, 0] : Fin 2 → ℕ) a) {hsrc hdst hsem} :
    iprop(fPart (F := F) d L Of ∗ free d L idxS ∗ semVal (thr d L, .dma sm) 0)
      ⊢ iprop((rowFlight d L Of sm -∗ wp frame (wpE (defs₀ (F := F)) 𝒱₀ (thr d L) none) Set.univ (k ⟨⟩) Q)
          -∗ wp frame (wpE (defs₀ (F := F)) 𝒱₀ (thr d L) none) Set.univ
              (.op (.enqueueDma (offRow off inb) (.here idxS) (.dma sm) hsrc hdst hsem) k) Q) := by
  unfold fPart free holds rowFlight
  rw [← offRow_set (inb := inb) h]
  iintro ⟨Hx, ⟨%v, %f, -, Hb⟩, Hs⟩ Hk
  iapply (Transfers.wp_dmaLocal countersEmb 𝒱₀ (thr d L) none (src := offRow off inb) (dst := idxS) (Sd := idxS.view.set)
    (none : HIx 1) idxS.view.dmaCredit rfl (View.dmaCredit_pos _ (by decide)) (Finset.Subset.refl _)) $$ [Hx Hb Hs]
  · isplitl [Hx]; · iexact Hx
    isplitl [Hb]; · iexact Hb
    iexact Hs
  iintro Hfl
  iapply Hk
  iapply (Transfers.Flight_mono (D := _) (D' := _) countersEmb (thr d L) ?_) $$ Hfl
  iintro ⟨Hb, Hx⟩
  isplitl [Hb]
  · unfold holds
    iexists _
    isplitr
    rotate_left
    · iexact Hb
    · ipureintro
      funext j
      rw [View.read_apply, View.write_emb_of_mem _ _ (Finset.mem_univ j), cast_cast, cast_eq]
      exact offRow_read (F := F) (inb := inb) h (L 1).isLt Of j
  · unfold fPart
    rw [← offRow_set (inb := inb) h]
    iexact Hx

/-- Waiting for the row. -/
theorem wait_row {src : Memref sig .scVector .hbm S8192 .i32} {hsrc hdst} :
    iprop(rowFlight d L Of sm ∗ owes (thr d L) O W ∗ Transfers.MayWaits (thr d L) (none : HIx 1) O)
      ⊢ iprop((iprop((holds d L idxS (fun j => Of (ix2 (rowOf L) (j 0))) ∗ fPart (F := F) d L Of) ∗ semVal (thr d L, .dma sm) 0
              ∗ owes (thr d L) O (insert (SemLoc.dma sm, (none : HIx 1)) W))
            -∗ wp frame (wpE (defs₀ (F := F)) 𝒱₀ (thr d L) none) Set.univ (k ⟨⟩) Q)
          -∗ wp frame (wpE (defs₀ (F := F)) 𝒱₀ (thr d L) none) Set.univ (.op (.waitDma2 sm src idxS hsrc hdst) k) Q) := by
  unfold rowFlight
  iintro ⟨Hf, HO, Hmw⟩ Hk
  ihave Hm := (Transfers.MayWaits.elim (.dma sm)) $$ Hmw
  iapply (Transfers.wp_waitLocalO countersEmb 𝒱₀ (thr d L) none (dstw := idxS) (none : HIx 1) rfl) $$ [Hf HO Hm]
  · isplitl [Hf]; · iexact Hf
    isplitl [HO] <;> iassumption
  iexact Hk

end Rules

end Cert.Proof

end
-- ==== Proof.LaneLoop.lean ====
/-
  The loop that turns the task's row of offsets into its row of lane words, sixteen words a trip: each word becomes the
  clip of itself, its position and minus one.
-/
module

public import proofs.«01_k».proof.Proof.Rects

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The word a trip stores, from the word it loaded: the lane word of that position. -/
theorem pay1_apply [FloatOps F] (t : Fin k0_t1_loop.trips) (v : S16.Idx → BitVec 32) (x : S16.Idx) :
    k0_pay1 (F := F) t v x = laneWord (v x) (16 * t.val + (x 0).val) := by
  have e : (BitVec.ofNat 32 (x 0).val + (0#32 + (0#32 + Scf.iv 0#32 1#32 t.val * 1#32) * 16#32 - 1#32)) + v x
      = v x - 1#32 + BitVec.ofNat 32 (16 * t.val + (x 0).val) := by
    rw [show BitVec.ofNat 32 (16 * t.val + (x 0).val) = 16#32 * BitVec.ofNat 32 t.val + BitVec.ofNat 32 (x 0).val from by
      rw [BitVec.ofNat_add, BitVec.ofNat_mul]]
    rw [show Scf.iv 0#32 1#32 t.val = BitVec.ofNat 32 t.val from by
      unfold Scf.iv; first | simp | ring]
    rw [BitVec.zero_add, BitVec.zero_add, BitVec.mul_one]
    rw [BitVec.sub_eq_add_neg, BitVec.sub_eq_add_neg, BitVec.mul_comm]
    ac_rfl
  have i0 : iota .scVector S16 32 [0] iota_S16_d0_w32_scVector x = BitVec.ofNat 32 (x 0).val := by
    unfold iota; simp
  show IntOp.minsi (IntOp.maxsi ((iota .scVector S16 32 [0] iota_S16_d0_w32_scVector x
    + (0#32 + (0#32 + Scf.iv 0#32 1#32 t.val * 1#32) * 16#32 - 1#32)) + v x) 0#32) 8191#32 - 0#32 = _
  rw [i0, e, BitVec.sub_zero]
  rfl

section Rules
variable [FloatOps F] (d : Dev nD) (L : grid0.Coords) (w0 : S8192.Idx → BitVec 32)

/-- A row of offsets turned into lane words before position `16 * t`. -/
def lanesTo (t : ℕ) : sProp 𝕄 :=
  iprop(∃ f : S8192.Idx → Elt F .i32, ⌜∀ j, f j = if (j 0).val < 16 * t then laneWord (w0 j) (j 0).val else w0 j⌝ ∗ holds d L idxS f)

/-- One trip turns the next sixteen words. -/
theorem wp_laneTrip (t : Fin k0_t1_loop.trips) (acc : Unit) :
    (lanesTo d L w0 t.val : sProp 𝕄)
      ⊢ wp frame (wpE (defs₀ (F := F)) 𝒱₀ (thr d L) none) Set.univ
          (k0_t1_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0 t acc)
          fun _ => lanesTo d L w0 (t.val + 1) := by
  unfold lanesTo k0_t1_body
  iintro ⟨%f, %hf, H⟩
  iapply (load_holds d L (hl := View.loadsAt_vmem h_S16)) $$ H
  iintro H
  iapply (load_holds d L (hl := View.loadsAt_vmem h_S16)) $$ H
  iintro H
  iapply (store_holds d L) $$ H
  iintro %f' %hf' H
  iapply (Entails.of_eq (wp_pure ..).symm)
  imodintro
  iexists f'
  isplitr
  rotate_left
  · iexact H
  ipureintro
  intro j
  have hm := words_mem (inb := k0_off3_inb t) (k0_off3_eq t) j
  by_cases hj : 16 * t.val ≤ (j 0).val ∧ (j 0).val < 16 * t.val + 16
  · rw [if_pos (by omega : (j 0).val < 16 * (t.val + 1))]
    have hx : (Rect.unit (s := S8192) (k0_off3 t) S16.size (k0_off3_inb t)).toLoadRect.idx (ix1 (⟨(j 0).val - 16 * t.val, by omega⟩ : Fin 16)) = j := by
      funext a
      match a with
      | 0 => exact Fin.ext ((words_idx (k0_off3_eq t) _).trans (show 16 * t.val + ((j 0).val - 16 * t.val) = (j 0).val by omega))
    refine Eq.trans (congrArg f' hx.symm) ((hf'.1 (ix1 (⟨(j 0).val - 16 * t.val, by omega⟩ : Fin 16))).trans ((pay1_apply t _ _).trans ?_))
    show laneWord (f _) (16 * t.val + ((j 0).val - 16 * t.val)) = _
    rw [hx, hf j, if_neg (by omega : ¬ (j 0).val < 16 * t.val), show 16 * t.val + ((j 0).val - 16 * t.val) = (j 0).val by omega]
  · rw [hf'.2 j (fun h => hj (hm.mp h)), hf j]
    by_cases h1 : (j 0).val < 16 * t.val
    · rw [if_pos h1, if_pos (by omega : (j 0).val < 16 * (t.val + 1))]
    · rw [if_neg h1, if_neg (by omega : ¬ (j 0).val < 16 * (t.val + 1))]

/-- Before the loop the row is as it was copied in. -/
theorem lanes_start : (holds d L idxS w0 : sProp 𝕄) ⊢ lanesTo d L w0 0 := by
  unfold lanesTo
  iintro H
  iexists w0
  isplitr
  · ipureintro
    intro j; rw [if_neg (by omega)]
  · iexact H

/-- After the loop every word is a lane word. -/
theorem lanes_done : (lanesTo d L w0 512 : sProp 𝕄) ⊢ holds d L idxS (fun j => laneWord (w0 j) (j 0).val) := by
  unfold lanesTo
  iintro ⟨%f, %hf, H⟩
  rw [show f = fun j => laneWord (w0 j) (j 0).val from funext fun j => by
    rw [hf j, if_pos (by have h : (j 0).val < 8192 := (j 0).isLt; omega)]]
  iexact H

end Rules

end Cert.Proof

end
-- ==== Proof.Task.lean ====
/-
  A whole task: ask for the first three pairs, fetch the row of offsets and turn it into lane words, run the sixteen trips
  of the pipeline, and wait for the last two copies out. A task given its half of one batch row of the input and of the
  result, and its row of the offsets, leaves the result's rows at their meaning and gives everything else back.
-/
module

public import proofs.«01_k».proof.Proof.Trip
public import proofs.«01_k».proof.Proof.RowCopy
public import proofs.«01_k».proof.Proof.LaneLoop

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Task
variable [FloatOps F] (d : Dev nD) (L : grid0.Coords)
variable (X g0 : S16x256x8192.Idx → Elt F .f32) (Of : S16x8192.Idx → BitVec 32)
variable (O : CellTallies nD τ sig (HIx 1)) (W : Waits sig (HIx 1))

/-- A slot idle: its buffer free and its semaphore at zero. -/
abbrev idle {s : Shape} {e : EltTy} (b : Memref sig .scVector .vmem s e) (sm : DmaSem sig) : sProp 𝕄 :=
  iprop(free d L b ∗ semVal (thr d L, .dma sm) 0)

/-- A task's own memory and semaphores, nothing in flight. -/
def scratch : sProp 𝕄 :=
  iprop(idle d L idxS cc0_scoped0.sem ∗ idle d L in0 cc0_scratch7.sem ∗ idle d L in1 cc0_scratch8.sem ∗ idle d L in2 cc0_scratch9.sem
    ∗ idle d L in3 cc0_scratch10.sem ∗ idle d L out0 cc0_scratch11.sem ∗ idle d L out1 cc0_scratch12.sem)

/-- What a task is given of the arrays, the result's rows at contents `G`. -/
def share (G : S16x256x8192.Idx → Elt F .f32) : sProp 𝕄 :=
  iprop(xPart d L X (lo L 0) (lo L 64) ∗ fPart (F := F) d L Of ∗ oPart d L G (lo L 0) (lo L 64))

section Ask
variable {b : Memref sig .scVector .vmem S2x8192 .f32} {sm : DmaSem sig} {off : Fin 3 → ℕ}
  {inb : ∀ a, off a + S1x2x8192.size a ≤ S16x256x8192.size a} {g : ℕ}
  {α : Type} {k : PUnit → Prog (TpuEff nD τ sig (Elt F) Λ₀ (thr d L).2) α}
  {Q : α → sProp (MT nD τ sig (HIx 1) (Elt F) ℕ UU ℕ)}

/-- Asking for pair `g` outright. -/
theorem ask_pair (hg : g < 64) (h : ∀ a, off a = (![(L 1).val, lo L g, 0] : Fin 3 → ℕ) a) {hsrc hdst hsem} :
    iprop(xTodo d L X g ∗ idle d L b sm)
      ⊢ iprop((iprop(inS d L X b sm g ∗ xTodo d L X (g + 1)) -∗ wp frame (wpE (defs₀ (F := F)) 𝒱₀ (thr d L) none) Set.univ (k ⟨⟩) Q)
          -∗ wp frame (wpE (defs₀ (F := F)) 𝒱₀ (thr d L) none) Set.univ
              (.op (.enqueueDma (pairOf xW off inb) (.here b) (.dma sm) hsrc hdst hsem) k) Q) := by
  unfold xTodo
  rw [inS_busy d L X hg, min_eq_left (by omega : g ≤ 64), min_eq_left (by omega : g + 1 ≤ 64)]
  iintro ⟨Hx, Hb, Hs⟩ Hk
  ihave Hx := (xPart_cut d L X (lo := lo L g) (mid := lo L g + 2) (hi := lo L 64) (by omega) (by unfold lo pairLo; omega)).1 $$ Hx
  icases Hx with ⟨Hx, Hx'⟩
  iapply (start_in d L (b := b) (sm := sm) X h) $$ [Hx Hb Hs]
  · isplitl [Hx]; · iexact Hx
    isplitl [Hb]; · iexact Hb
    iexact Hs
  iintro Hfl
  iapply Hk
  isplitl [Hfl]; · iexact Hfl
  iexact Hx'

end Ask

/-- The start of the kernel: the first pair is asked for. -/
theorem wp_part3 (R : sProp 𝕄) :
    iprop((xTodo d L X 0 ∗ idle d L in0 cc0_scratch7.sem) ∗ R)
      ⊢ wp frame (wpE (defs₀ (F := F)) 𝒱₀ (thr d L) none) Set.univ
          (k0_part3 (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0)
          fun _ => iprop((inS d L X in0 cc0_scratch7.sem 0 ∗ xTodo d L X 1) ∗ R) := by
  rw [k0_part3_eq_skeleton]
  unfold k0_part3_skel
  iintro ⟨H, HR⟩
  iapply (ask_pair d L X (b := in0) (sm := cc0_scratch7.sem) (g := 0) (off := k0_off1 L 0#32) (inb := k0_off1_inb L 0) (by omega) (off1_eq L 0)) $$ H
  iintro H
  iapply (Entails.of_eq (wp_pure ..).symm)
  imodintro
  isplitl [H]; · iexact H
  iexact HR

/-- Nothing is asked for, waited for or written yet. -/
theorem share_start :
    (share d L X Of g0 : sProp 𝕄)
      ⊢ iprop(fPart (F := F) d L Of ∗ xTodo d L X 0 ∗ xBack d L X 0 ∗ oTodo d L g0 0 ∗ oDone d L X Of 0) := by
  unfold share xTodo xBack oTodo oDone
  iintro ⟨Hx, Hf, Ho⟩
  ihave Hx := (xPart_cut d L X (lo := lo L 0) (mid := lo L 0) (hi := lo L 64) le_rfl (by unfold lo pairLo; omega)).1 $$ Hx
  icases Hx with ⟨Hx0, Hx⟩
  ihave Ho := (oPart_cut d L g0 (lo := lo L 0) (mid := lo L 0) (hi := lo L 64) le_rfl (by unfold lo pairLo; omega)).1 $$ Ho
  icases Ho with ⟨Ho0, Ho⟩
  isplitl [Hf]; · iexact Hf
  isplitl [Hx]; · iexact Hx
  isplitl [Hx0]; · iexact Hx0
  isplitl [Ho]; · iexact Ho
  iapply (Entails.of_eq (pointsTo_congr ?_)) $$ Ho0
  intro p hp
  rw [stretch_self] at hp
  exact absurd hp (Finset.notMem_empty p)

/-- The rest of a task's holdings while its first pair is asked for. -/
def besides : sProp 𝕄 :=
  iprop((free d L idxS ∗ semVal (thr d L, .dma cc0_scoped0.sem) 0) ∗ idle d L in1 cc0_scratch8.sem ∗ idle d L in2 cc0_scratch9.sem
    ∗ idle d L in3 cc0_scratch10.sem ∗ idle d L out0 cc0_scratch11.sem ∗ idle d L out1 cc0_scratch12.sem
    ∗ fPart (F := F) d L Of ∗ xBack d L X 0 ∗ oTodo d L g0 0 ∗ oDone d L X Of 0 ∗ clear d L O W)

/-- A task's part and scratch, split into what asking for the first pair takes and the rest. -/
theorem task_start :
    iprop(share d L X Of g0 ∗ scratch (F := F) d L ∗ clear d L O W)
      ⊢ iprop((xTodo d L X 0 ∗ idle d L in0 cc0_scratch7.sem) ∗ besides d L X g0 Of O W) := by
  unfold scratch besides
  iintro ⟨Hsh, ⟨Hix, H0, H1, H2, H3, Ho0, Ho1⟩, Hcl⟩
  ihave Hsh := (share_start d L X g0 Of) $$ Hsh
  icases Hsh with ⟨Hf, Hx, Hback, Htodo, Hdone⟩
  isplitl [Hx H0]
  · isplitl [Hx]; · iexact Hx
    iexact H0
  isplitl [Hix]; · iexact Hix
  isplitl [H1]; · iexact H1
  isplitl [H2]; · iexact H2
  isplitl [H3]; · iexact H3
  isplitl [Ho0]; · iexact Ho0
  isplitl [Ho1]; · iexact Ho1
  isplitl [Hf]; · iexact Hf
  isplitl [Hback]; · iexact Hback
  isplitl [Htodo]; · iexact Htodo
  isplitl [Hdone]; · iexact Hdone
  iexact Hcl

/-- Everything after the sixteen trips: the last two copies out have to be waited for; what is left over is idle. -/
theorem trips_done :
    (atPair d L X g0 Of slots0 O W 64 : sProp 𝕄)
      ⊢ iprop(idle d L in0 cc0_scratch7.sem ∗ idle d L in1 cc0_scratch8.sem ∗ idle d L in2 cc0_scratch9.sem ∗ idle d L in3 cc0_scratch10.sem
        ∗ xBack d L X 64 ∗ outS d L X Of out0 cc0_scratch11.sem 64 ∗ outS d L X Of out1 cc0_scratch12.sem 65 ∗ oDone d L X Of (64 - 2)
        ∗ free d L idxS ∗ clear d L O W) := by
  unfold atPair steady
  rw [inS_idle d L X (g := 64) (by omega), inS_idle d L X (g := 64 + 1) (by omega), inS_idle d L X (g := 64 + 2) (by omega)]
  iintro ⟨H0, H1, H2, H3, -, Hback, Ho0, Ho1, -, Hdone, Hidx, Hcl⟩
  isplitl [H0]; · iexact H0
  isplitl [H1]; · iexact H1
  isplitl [H2]; · iexact H2
  isplitl [H3]; · iexact H3
  isplitl [Hback]; · iexact Hback
  isplitl [Ho0]; · iexact Ho0
  isplitl [Ho1]; · iexact Ho1
  isplitl [Hdone]; · iexact Hdone
  isplitl [Hidx]
  · iapply (holds_free d L idxS); iexact Hidx
  iexact Hcl

set_option maxHeartbeats 2000000 in
/-- The kernel's statements after the first pair is asked for, to the end. -/
theorem wp_part4 :
    iprop((xTodo d L X 0 ∗ idle d L in0 cc0_scratch7.sem) ∗ besides d L X g0 Of O W)
      ⊢ wp frame (wpE (defs₀ (F := F)) 𝒱₀ (thr d L) none) Set.univ
          (k0_part4 (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0)
          fun _ => iprop(share d L X Of (result X Of) ∗ scratch (F := F) d L ∗ clear d L O W) := by
  rw [k0_part4_eq_skeleton]
  unfold k0_part4_skel
  rw [wp_bind]
  refine (wp_part3 d L X _).trans (wp_mono _ _ _ fun c29 => ?_)
  unfold besides
  iintro ⟨⟨H0, Hx⟩, ⟨Hix, Hsx⟩, H1, H2, H3, Ho0, Ho1, Hf, Hback, Htodo, Hdone, Hcl⟩
  iapply (ask_pair d L X (b := in1) (sm := cc0_scratch8.sem) (g := 1) (off := k0_off1 L 2#32) (inb := k0_off1_inb L 1) (by omega) (off1_eq L 1)) $$ [Hx H1]
  · isplitl [Hx]; · iexact Hx
    iexact H1
  iintro ⟨H1, Hx⟩
  iapply (ask_pair d L X (b := in2) (sm := cc0_scratch9.sem) (g := 2) (off := k0_off1 L 4#32) (inb := k0_off1_inb L 2) (by omega) (off1_eq L 2)) $$ [Hx H2]
  · isplitl [Hx]; · iexact Hx
    iexact H2
  iintro ⟨H2, Hx⟩
  iapply (start_row d L Of (sm := cc0_scoped0.sem) (off := k0_off2 L) (inb := k0_off2_inb L) (off2_eq L)) $$ [Hf Hix Hsx]
  · isplitl [Hf]; · iexact Hf
    isplitl [Hix]; · iexact Hix
    iexact Hsx
  iintro Hfl
  unfold clear
  icases Hcl with ⟨⟨%W', %hW, HO⟩, #Hmw⟩
  iapply (wait_row d L Of) $$ [Hfl HO]
  · isplitl [Hfl]; · iexact Hfl
    isplitl [HO]; · iexact HO
    iexact Hmw
  iintro ⟨⟨Hix, Hf⟩, Hsx, HO⟩
  ihave Hcl := (clear_insert d L O W hW) $$ [HO]
  · isplitl [HO]; · iexact HO
    iexact Hmw
  iapply (Scf.wp_for_bind frame (wpE (defs₀ (F := F)) 𝒱₀ (thr d L) none) Set.univ k0_t1_loop.lb k0_t1_loop.ub k0_t1_loop.st k0_t1_ok () _
    (fun t _ => lanesTo d L (fun j => Of (ix2 (rowOf L) (j 0))) t)
    (fun t acc => wp_laneTrip d L _ t acc)) $$ [Hix]
  · iapply (lanes_start d L); iexact Hix
  iintro %acc Hix
  rw [show Scf.trips k0_t1_loop.lb k0_t1_loop.ub k0_t1_loop.st = 512 from by decide]
  ihave Hix := (lanes_done d L (fun j => Of (ix2 (rowOf L) (j 0)))) $$ Hix
  iapply (Scf.wp_for_bind frame (wpE (defs₀ (F := F)) 𝒱₀ (thr d L) none) Set.univ k0_t2_loop.lb k0_t2_loop.ub k0_t2_loop.st k0_t2_ok () _
    (fun t _ => atPair d L X g0 Of slots0 O W (4 * t))
    (fun t acc => wp_trip d L X g0 Of O W t c29 acc)) $$ [H0 H1 H2 H3 Hx Hback Ho0 Ho1 Htodo Hdone Hix Hcl]
  · unfold atPair steady clear
    rw [outS_idle d L X Of (g := 4 * 0) (by omega), outS_idle d L X Of (g := 4 * 0 + 1) (by omega)]
    isplitl [H0]; · iexact H0
    isplitl [H1]; · iexact H1
    isplitl [H2]; · iexact H2
    isplitl [H3]; · iexact H3
    isplitl [Hx]; · iexact Hx
    isplitl [Hback]; · iexact Hback
    isplitl [Ho0]; · iexact Ho0
    isplitl [Ho1]; · iexact Ho1
    isplitl [Htodo]; · iexact Htodo
    isplitl [Hdone]; · iexact Hdone
    isplitl [Hix]; · iexact Hix
    iexact Hcl
  iintro %acc' H
  rw [show Scf.trips k0_t2_loop.lb k0_t2_loop.ub k0_t2_loop.st = 16 from by decide]
  ihave H := (trips_done d L X g0 Of O W) $$ H
  icases H with ⟨H0, H1, H2, H3, Hback, Ho0, Ho1, Hdone, Hix, Hcl⟩
  iapply (wait_slot d L X Of O W (g := 64) (b := out0) (sm := cc0_scratch11.sem) (off := k0_off1 L 124#32) (inb := k0_off1_inb L 3) (by omega)) $$ [Ho0 Hdone Hcl]
  · isplitl [Ho0]; · iexact Ho0
    isplitl [Hdone]; · iexact Hdone
    iexact Hcl
  iintro ⟨Ho0, Hdone, Hcl⟩
  iapply (wait_slot d L X Of O W (g := 65) (b := out1) (sm := cc0_scratch12.sem) (off := k0_off1 L 126#32) (inb := k0_off1_inb L 4) (by omega)) $$ [Ho1 Hdone Hcl]
  · isplitl [Ho1]; · iexact Ho1
    isplitl [Hdone]; · iexact Hdone
    iexact Hcl
  iintro ⟨Ho1, Hdone, Hcl⟩
  iapply (Entails.of_eq (wp_pure ..).symm)
  imodintro
  isplitl [Hback Hf Hdone]
  · unfold share xBack oDone
    isplitl [Hback]; · iexact Hback
    isplitl [Hf]; · iexact Hf
    iexact Hdone
  isplitr [Hcl]
  · unfold scratch
    isplitl [Hix Hsx]
    · isplitl [Hix]
      · iexact Hix
      iexact Hsx
    isplitl [H0]; · iexact H0
    isplitl [H1]; · iexact H1
    isplitl [H2]; · iexact H2
    isplitl [H3]; · iexact H3
    isplitl [Ho0]; · iexact Ho0
    iexact Ho1
  iapply (show (clear d L O W : sProp 𝕄) ⊢ iprop((∃ W', ⌜∀ p ∈ W', p ∈ W ∨ p.2 = none⌝ ∗ owes (thr d L) O W')
    ∗ Transfers.MayWaits (thr d L) (none : HIx 1) O) from .rfl)
  iexact Hcl

/-- The whole task. -/
theorem wp_task :
    iprop(share d L X Of g0 ∗ scratch (F := F) d L ∗ clear d L O W)
      ⊢ wp frame (wpE (defs₀ (F := F)) 𝒱₀ (thr d L) none) Set.univ
          (cc0__jitter_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0)
          fun _ => iprop(share d L X Of (result X Of) ∗ scratch (F := F) d L ∗ clear d L O W) := by
  rw [cc0__jitter_body_eq_skeleton]
  unfold cc0__jitter_body_skel
  rw [wp_bind]
  refine (task_start d L X g0 Of O W).trans ((wp_part4 d L X g0 Of O W).trans (wp_mono _ _ _ fun _ => ?_))
  iintro H
  iapply (Entails.of_eq (wp_pure ..).symm)
  imodintro
  iexact H

end Task

end Cert.Proof

end
-- ==== Proof.Own.lean ====
/-
  A tile's own storage, as the launch deals it: the task's seven buffers and seven semaphores are among it, and the rest
  is kept aside while the task runs.
-/
module

public import proofs.«01_k».proof.Proof.Task

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own
variable (d : Dev nD) (L : grid0.Coords)

/-- The buffers a task uses. -/
def taskRefs : Finset (Ref sig .scVector) := {cc0_scratch0, cc0_scratch1, cc0_scratch2, cc0_scratch3, cc0_scratch4, cc0_scratch5, cc0_scratch6}

/-- The semaphores a task uses. -/
def taskSems : Finset (SemLoc sig) :=
  {.dma cc0_scoped0.sem, .dma cc0_scratch7.sem, .dma cc0_scratch8.sem, .dma cc0_scratch9.sem, .dma cc0_scratch10.sem, .dma cc0_scratch11.sem,
    .dma cc0_scratch12.sem}

/-- A tile's buffers besides the task's. -/
def otherBufs : sProp 𝕄 :=
  bigSep (SparseCore.Cfg.ownRefs (τ := τ) (sig := sig) (thr d L).2 \ taskRefs.image (thr d L).2.devRef) fun b => iprop(∃ f, ((d, b) : Loc nD τ sig) ↦{fullShare} f)

/-- A tile's semaphores besides the task's. -/
def otherSems : sProp 𝕄 :=
  bigSep (SparseCore.Cfg.ownCells (sig := sig) (thr d L) \ taskSems.image fun sm => (thr d L, sm)) fun g => semVal g 0

/-- One buffer of a tile whole, at some contents. -/
abbrev someBuf (b : Ref sig .scVector) : sProp 𝕄 := iprop(∃ f, (thr d L).loc b ↦{fullShare} f)

/-- Something held of each of the task's buffers, one by one. -/
theorem each_ref (Φ : Ref sig .scVector → sProp (MT nD τ sig (HIx 1) (Elt F) ℕ UU ℕ)) :
    bigSep taskRefs Φ = iprop(Φ cc0_scratch0 ∗ Φ cc0_scratch1 ∗ Φ cc0_scratch2 ∗ Φ cc0_scratch3 ∗ Φ cc0_scratch4 ∗ Φ cc0_scratch5 ∗ Φ cc0_scratch6) := by
  unfold taskRefs
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A tile's memory: the kernel's seven scratch buffers, and the rest. -/
theorem tileBufs :
    (SparseCore.Cfg.ownBufs (thr d L) : sProp 𝕄)
      = iprop((someBuf d L cc0_scratch0 ∗ someBuf d L cc0_scratch1 ∗ someBuf d L cc0_scratch2 ∗ someBuf d L cc0_scratch3
          ∗ someBuf d L cc0_scratch4 ∗ someBuf d L cc0_scratch5 ∗ someBuf d L cc0_scratch6) ∗ otherBufs (F := F) d L) := by
  unfold SparseCore.Cfg.ownBufs otherBufs
  rw [SparseCore.bigSep_sdiff_split' (t := taskRefs.image (thr d L).2.devRef) (fun b hb => by
    obtain ⟨r, hr, rfl⟩ := Finset.mem_image.mp hb
    refine SparseCore.Cfg.mem_ownRefs_of_owner ?_
    fin_cases hr <;> rfl)]
  rw [SparseCore.bigSep_image_of_injOn (fun a _ b _ e => Proc.devRef_injective _ e)]
  exact congrArg (fun P => iprop(P ∗ _)) (each_ref (F := F) fun b => someBuf d L b)

/-- One semaphore of a tile at zero. -/
abbrev zeroSem (sm : DmaSem sig) : sProp 𝕄 := semVal (thr d L, .dma sm) 0

/-- A tile's semaphores at zero: the kernel's seven, and the rest. -/
theorem tileSems :
    (SparseCore.Cfg.ownSems0 (thr d L) : sProp 𝕄)
      = iprop((zeroSem d L cc0_scoped0.sem ∗ zeroSem d L cc0_scratch7.sem ∗ zeroSem d L cc0_scratch8.sem ∗ zeroSem d L cc0_scratch9.sem
          ∗ zeroSem d L cc0_scratch10.sem ∗ zeroSem d L cc0_scratch11.sem ∗ zeroSem d L cc0_scratch12.sem) ∗ otherSems (F := F) d L) := by
  unfold SparseCore.Cfg.ownSems0 otherSems
  rw [SparseCore.bigSep_sdiff_split' (t := taskSems.image fun sm => (thr d L, sm)) (fun g hg => by
    obtain ⟨sm, hs, rfl⟩ := Finset.mem_image.mp hg
    refine SparseCore.Cfg.mem_ownCells.mpr ⟨rfl, ?_⟩
    have h : ∀ sm ∈ taskSems, sm.isScoped .scVector = true := by decide
    exact h sm hs)]
  rw [SparseCore.bigSep_image_of_injOn (fun a _ b _ e => (Prod.mk.inj e).2)]
  unfold taskSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- A whole scratch memref is free when its buffer is held whole. -/
theorem free_iff {s : Shape} {e : EltTy} {b : Memref sig .scVector .vmem s e} (hb : b.view.set = Finset.univ) :
    (free d L b : sProp 𝕄) ⊣⊢ iprop(∃ f, b.view.loc (thr d L) ↦{fullShare} f) := by
  unfold free holds
  rw [hb]
  constructor
  · iintro ⟨%v, %f, -, H⟩
    iexists f; iexact H
  · iintro ⟨%f, H⟩
    iexists _; iexists f
    isplitr
    · ipureintro; exact rfl
    · iexact H

/-- A tile's storage is the task's, idle, and the rest. -/
theorem storage_scratch :
    (iprop(SparseCore.Cfg.ownBufs (thr d L) ∗ SparseCore.Cfg.ownSems0 (thr d L)) : sProp 𝕄)
      ⊣⊢ iprop(scratch (F := F) d L ∗ otherBufs (F := F) d L ∗ otherSems (F := F) d L) := by
  rw [tileBufs, tileSems]
  unfold scratch idle
  constructor
  · iintro ⟨⟨⟨B0, B1, B2, B3, B4, B5, B6⟩, HB⟩, ⟨S0, S1, S2, S3, S4, S5, S6⟩, HS⟩
    isplitr [HB HS]
    · isplitl [B0 S0]
      · isplitl [B0]; · iapply (free_iff d L (b := idxS) (View.set_whole _)).2; iexact B0
        iexact S0
      isplitl [B1 S1]
      · isplitl [B1]; · iapply (free_iff d L (b := in0) (View.set_whole _)).2; iexact B1
        iexact S1
      isplitl [B2 S2]
      · isplitl [B2]; · iapply (free_iff d L (b := in1) (View.set_whole _)).2; iexact B2
        iexact S2
      isplitl [B3 S3]
      · isplitl [B3]; · iapply (free_iff d L (b := in2) (View.set_whole _)).2; iexact B3
        iexact S3
      isplitl [B4 S4]
      · isplitl [B4]; · iapply (free_iff d L (b := in3) (View.set_whole _)).2; iexact B4
        iexact S4
      isplitl [B5 S5]
      · isplitl [B5]; · iapply (free_iff d L (b := out0) (View.set_whole _)).2; iexact B5
        iexact S5
      isplitl [B6]; · iapply (free_iff d L (b := out1) (View.set_whole _)).2; iexact B6
      iexact S6
    isplitl [HB]; · iexact HB
    iexact HS
  · iintro ⟨⟨⟨B0, S0⟩, ⟨B1, S1⟩, ⟨B2, S2⟩, ⟨B3, S3⟩, ⟨B4, S4⟩, ⟨B5, S5⟩, ⟨B6, S6⟩⟩, HB, HS⟩
    isplitl [B0 B1 B2 B3 B4 B5 B6 HB]
    · isplitr [HB]
      · isplitl [B0]; · iapply (free_iff d L (b := idxS) (View.set_whole _)).1; iexact B0
        isplitl [B1]; · iapply (free_iff d L (b := in0) (View.set_whole _)).1; iexact B1
        isplitl [B2]; · iapply (free_iff d L (b := in1) (View.set_whole _)).1; iexact B2
        isplitl [B3]; · iapply (free_iff d L (b := in2) (View.set_whole _)).1; iexact B3
        isplitl [B4]; · iapply (free_iff d L (b := in3) (View.set_whole _)).1; iexact B4
        isplitl [B5]; · iapply (free_iff d L (b := out0) (View.set_whole _)).1; iexact B5
        iapply (free_iff d L (b := out1) (View.set_whole _)).1; iexact B6
      iexact HB
    isplitr [HS]
    · isplitl [S0]; · iexact S0
      isplitl [S1]; · iexact S1
      isplitl [S2]; · iexact S2
      isplitl [S3]; · iexact S3
      isplitl [S4]; · iexact S4
      isplitl [S5]; · iexact S5
      iexact S6
    iexact HS

/-- What a finished task and the storage kept aside make together. -/
theorem task_end (O : CellTallies nD τ sig (HIx 1)) (W : Waits sig (HIx 1)) (R : sProp (MT nD τ sig (HIx 1) (Elt F) ℕ UU ℕ)) :
    iprop((R ∗ scratch (F := F) d L ∗ clear d L O W) ∗ otherBufs (F := F) d L ∗ otherSems (F := F) d L)
      ⊢ (iprop(R ∗ SparseCore.Cfg.ownBufs (thr d L) ∗ SparseCore.Cfg.ownSems0 (thr d L)
          ∗ ∃ W', ⌜∀ p ∈ W', p ∈ W ∨ p.2 = none⌝ ∗ owes (thr d L) O W') : sProp 𝕄) := by
  unfold clear
  iintro ⟨⟨HR, Hscr, HO, -⟩, HB, HS⟩
  ihave Hst := (storage_scratch (F := F) d L).2 $$ [Hscr HB HS]
  · isplitl [Hscr]; · iexact Hscr
    isplitl [HB]; · iexact HB
    iexact HS
  icases Hst with ⟨Hb, Hs⟩
  isplitl [HR]; · iexact HR
  isplitl [Hb]; · iexact Hb
  isplitl [Hs]; · iexact Hs
  iexact HO

variable [FloatOps F] (X g0 : S16x256x8192.Idx → Elt F .f32) (Of : S16x8192.Idx → BitVec 32)
variable (O : CellTallies nD τ sig (HIx 1)) (W : Waits sig (HIx 1))

/-- The task on its tile: from its share of the arrays and the tile's storage, to its share with the result's rows at their
    meaning, the storage given back, and nothing but waits of the copies' level recorded. -/
theorem tile_body (hO : ∀ g, O g none = 0) :
    iprop(levAts (K (F := F)).L (K (F := F)).lev ∗ emp ∗ share d L X Of g0
        ∗ scopedBufs (thr d L) ∗ scopedSems0 (thr d L) ∗ owes (thr d L) O W)
      ⊢ wp frame (wpE (defs₀ (F := F)) 𝒱₀ (thr d L) none) Set.univ
          (cc0__jitter_body (F := F) L xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0)
          fun _ => iprop(share d L X Of (result X Of) ∗ scopedBufs (thr d L) ∗ scopedSems0 (thr d L)
            ∗ ∃ W', ⌜∀ p ∈ W', p ∈ W ∨ p.2 = none⌝ ∗ owes (thr d L) O W') := by
  rw [(K (F := F)).scopedBufs_V facts, SparseCore.Cfg.scopedSems0_V (Val := Elt F)]
  iintro ⟨#Hlv, -, Hsh, Hb, Hs, HO⟩
  ihave Hmw := ((K (F := F)).mayWaits_none (thr := thr d L) hO) $$ Hlv
  ihave Hst := (storage_scratch (F := F) d L).1 $$ [Hb Hs]
  · isplitl [Hb]; · iexact Hb
    iexact Hs
  icases Hst with ⟨Hscr, HB, HS⟩
  iapply (wp_mono _ _ _ (fun _ => task_end (F := F) d L O W _))
  iapply (wp_frame_r _ _ _)
  isplitr [HB HS]
  · iapply (wp_task d L X g0 Of O W)
    isplitl [Hsh]; · iexact Hsh
    isplitl [Hscr]; · iexact Hscr
    unfold clear
    isplitl [HO]
    · iexists W
      isplitr
      · ipureintro; exact fun p hp => .inl hp
      · iexact HO
    iexact Hmw
  isplitl [HB]; · iexact HB
  iexact HS

end Own

end Cert.Proof

end
-- ==== Proof.Deal.lean ====
/-
  How the three arrays are dealt to the 32 tasks and come back: task `(c, s)` has feature rows `128c .. 128c + 127` of
  batch row `s` of the input and of the result, and half a share of row `s` of the offsets.
-/
module

public import proofs.«01_k».proof.Proof.Own

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of SparseCore `c`, tile `s`. -/
def point (c : Fin (grid0.bound 0)) (s : Fin (grid0.bound 1)) : grid0.Coords :=
  fun | 0 => c | 1 => s | ⟨_ + 2, h⟩ => absurd h (Nat.not_lt.2 (Nat.le_add_left _ _))

/-- A task's part of a large array. -/
abbrev block (p : Fin 2 × Fin 16) : Finset S16x256x8192.Idx := stretch p.2.val (pairLo p.1.val 0) (pairLo p.1.val 64)

/-- No two tasks work on a common element of the input or the result. -/
theorem blocks_disjoint : ∀ p ∈ (Finset.univ : Finset (Fin 2 × Fin 16)), ∀ q ∈ (Finset.univ : Finset (Fin 2 × Fin 16)), p ≠ q → Disjoint (block p) (block q) := by
  intro p _ q _ h
  refine Finset.disjoint_left.mpr fun x hx hx' => h ?_
  rw [mem_stretch] at hx hx'
  unfold pairLo at hx hx'
  exact Prod.ext (Fin.ext (by omega)) (Fin.ext (by omega))

/-- Together the tasks work on every element. -/
theorem blocks_cover : (Finset.univ : Finset (Fin 2 × Fin 16)).biUnion block = Finset.univ := by
  ext x
  have h0 : (x 0).val < 16 := (x 0).isLt
  have h1 : (x 1).val < 256 := (x 1).isLt
  simp only [Finset.mem_biUnion, Finset.mem_univ, true_and, iff_true]
  refine ⟨(⟨(x 1).val / 128, by omega⟩, ⟨(x 0).val, h0⟩), ?_⟩
  rw [mem_stretch]
  unfold pairLo
  refine ⟨rfl, ?_, ?_⟩ <;> dsimp only <;> omega

/-- Two rows of offsets have no element in common. -/
theorem offSets_disjoint : ∀ p ∈ (Finset.univ : Finset (Fin 16)), ∀ q ∈ (Finset.univ : Finset (Fin 16)), p ≠ q → Disjoint (offSet p.val) (offSet q.val) := by
  intro p _ q _ h
  refine Finset.disjoint_left.mpr fun x hx hx' => h ?_
  rw [mem_offSet] at hx hx'
  exact Fin.ext (hx.symm.trans hx')

/-- The rows are all of the offsets. -/
theorem offSets_cover : (Finset.univ : Finset (Fin 16)).biUnion (fun p => offSet p.val) = Finset.univ := by
  ext x
  simp only [Finset.mem_biUnion, Finset.mem_univ, true_and, iff_true]
  exact ⟨⟨(x 0).val, (x 0).isLt⟩, mem_offSet.mpr rfl⟩

section Deal
variable (d : Dev nD)

/-- The input dealt. -/
theorem deal_x (X : Buf (Elt F) (xLoc d)) :
    (xLoc d ↦{fullShare} X : sProp 𝕄)
      = bigSep Finset.univ fun c : Fin 2 => bigSep Finset.univ fun s : Fin 16 => xPart d (point c s) X (lo (point c s) 0) (lo (point c s) 64) := by
  rw [← bigSep_univ_prod (fun p : Fin 2 × Fin 16 => xPart d (point p.1 p.2) X (lo (point p.1 p.2) 0) (lo (point p.1 p.2) 64))]
  refine Eq.trans ?_ (pointsTo_biUnion (ℓ := xLoc d) Finset.univ block blocks_disjoint)
  rw [blocks_cover]

/-- The result dealt. -/
theorem deal_o (G : Buf (Elt F) (oLoc d)) :
    (oLoc d ↦{fullShare} G : sProp 𝕄)
      = bigSep Finset.univ fun c : Fin 2 => bigSep Finset.univ fun s : Fin 16 => oPart d (point c s) G (lo (point c s) 0) (lo (point c s) 64) := by
  rw [← bigSep_univ_prod (fun p : Fin 2 × Fin 16 => oPart d (point p.1 p.2) G (lo (point p.1 p.2) 0) (lo (point p.1 p.2) 64))]
  refine Eq.trans ?_ (pointsTo_biUnion (ℓ := oLoc d) Finset.univ block blocks_disjoint)
  rw [blocks_cover]

/-- The offsets dealt: half a share to each SparseCore, a row to each tile. -/
theorem deal_f (Of : Buf (Elt F) (fLoc d)) :
    (fLoc d ↦{fullShare} Of : sProp 𝕄)
      = bigSep Finset.univ fun c : Fin 2 => bigSep Finset.univ fun s : Fin 16 => fPart (F := F) d (point c s) Of := by
  have row (q : PosShare TreeShare) : (fLoc d ↦{q} Of : sProp 𝕄) = bigSep Finset.univ fun s : Fin 16 => fLoc d ↦[offSet s.val]{q} Of := by
    refine Eq.trans ?_ (pointsTo_biUnion (ℓ := fLoc d) Finset.univ (fun s : Fin 16 => offSet s.val) offSets_disjoint)
    rw [offSets_cover]
  have h := pointsTo_share (ℓ := fLoc d) (I := Finset.univ) (f := Of) (Ix := HIx 1) (Name := ℕ) (U := UU) (Lvl := ℕ) (PosShare.mem_left_op_right fullShare)
  rw [Entails.antisymm h.1 h.2, row, row, show (Finset.univ : Finset (Fin 2)) = {0, 1} by decide, SparseCore.bigSep_insert' (by decide), bigSep_singleton]
  rfl

/-- All three arrays dealt to the tasks, the result at contents `G`. -/
theorem deal (X : Buf (Elt F) (xLoc d)) (Of : Buf (Elt F) (fLoc d)) (G : Buf (Elt F) (oLoc d)) :
    iprop((xLoc d ↦{fullShare} X) ∗ (fLoc d ↦{fullShare} Of) ∗ (oLoc d ↦{fullShare} G))
      = (bigSep Finset.univ fun c : Fin 2 => bigSep Finset.univ fun s : Fin 16 => share d (point c s) X Of G : sProp 𝕄) := by
  rw [deal_x, deal_f, deal_o, ← bigSep_sep', ← bigSep_sep']
  refine bigSep_congr fun c _ => ?_
  rw [← bigSep_sep', ← bigSep_sep']
  rfl

end Deal

end Cert.Proof

end
-- ==== Proof.Launch.lean ====
/-
  The program's run: the one call deals the three arrays to the tasks, each task runs, and the arrays come back with the
  result at its meaning. The launch theorem makes of it that every run ends, with the input and the offsets as they were,
  the result as stated, and every semaphore at zero.
-/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- What the result must be, from the launch memory. -/
abbrev meant (d : Dev nD) : Buf (Elt F) (oLoc d) :=
  result (m (xLoc d) : S16x256x8192.Idx → Elt F .f32) (m (fLoc d) : S16x8192.Idx → BitVec 32)

/-- A task's share of the arrays, the result at contents `G`. -/
abbrev taskShare (d : Dev nD) (G : Buf (Elt F) (oLoc d)) (c : Fin 2) (s : Fin 16) : sProp 𝕄 :=
  share d (point c s) (m (xLoc d)) (m (fLoc d)) G

/-- What the call carries: to a SparseCore its tasks' shares, to a tile its own, and the same back with the result's rows
    at their meaning. -/
def P : (K (F := F)).Pay (nD := nD) (Val := Elt F) (Name := ℕ) (U := UU) where
  st := fun q d c => match q with | 0 => bigSep Finset.univ fun s : Fin 16 => taskShare m d (m (oLoc d)) c s
  dn := fun q d c => match q with | 0 => bigSep Finset.univ fun s : Fin 16 => taskShare m d (meant m d) c s
  go := fun q d c i => match q with | 0 => taskShare m d (m (oLoc d)) c i
  td := fun q d c i => match q with | 0 => taskShare m d (meant m d) c i
  x := fun _ _ => iprop(emp)

/-- A task's part may travel with a handshake. -/
instance share_storable (d : Dev nD) (L : grid0.Coords) (X : S16x256x8192.Idx → Elt F .f32) (Of : S16x8192.Idx → BitVec 32)
    (G : S16x256x8192.Idx → Elt F .f32) : BI.Storable (upEmb : UEmb _ 𝕄) (share d L X Of G) := by
  unfold share; infer_instance

/-- So may a SparseCore's. -/
theorem parts_storable (d : Dev nD) (G : Buf (Elt F) (oLoc d)) (c : Fin 2) :
    BI.Storable (upEmb : UEmb _ 𝕄) (bigSep Finset.univ fun s : Fin 16 => taskShare m d G c s) :=
  have (s : Fin 16) : BI.Storable (upEmb : UEmb _ 𝕄) (taskShare m d G c s) := share_storable d _ _ _ _
  BI.Storable.bigSep _ _ _

/-- All that the handshakes carry may. -/
instance P_storable : (P (F := F) m).IsStorable where
  st q d c := match q with
    | 0 => parts_storable m d (m (oLoc d)) c
  dn q d c := match q with
    | 0 => parts_storable m d (meant m d) c
  go q d c i := match q with | 0 => (inferInstance : BI.Storable (upEmb : UEmb _ 𝕄) (taskShare m d (m (oLoc d)) c i))
  td q d c i := match q with | 0 => (inferInstance : BI.Storable (upEmb : UEmb _ 𝕄) (taskShare m d (meant m d) c i))

variable [FloatOps F]

/-- A tile's entry in the table of bodies: the kernel at that tile's grid point, over the arrays and the tile's scratch. -/
theorem defs₀_tile (c : Fin τ.nSC) (s : Fin τ.nSub) :
    defs₀ (F := F) (.scVector c s) 0 ()
      = SparseCore.onTile hcore0 hsub0 (fun c s => cc0__jitter_body (F := F) (point c s) xW (Memref.isWhole_whole _) fW (Memref.isWhole_whole _) oW (Memref.isWhole_whole _) idxS (Memref.isWhole_whole _) in0 (Memref.isWhole_whole _) in1 (Memref.isWhole_whole _) in2 (Memref.isWhole_whole _) in3 (Memref.isWhole_whole _) out0 (Memref.isWhole_whole _) out1 (Memref.isWhole_whole _) cc0_scratch7 cc0_scratch8 cc0_scratch9 cc0_scratch10 cc0_scratch11 cc0_scratch12 cc0_scoped0) ⟨⟩ c s := rfl

omit [FloatOps F] in
/-- The record of waits a task ends with is one the launch allows. -/
theorem more_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task meets its obligation. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body d (point ⟨_, hc.1⟩ ⟨_, hc.2⟩) (m (xLoc d)) (m (oLoc d)) (m (fLoc d)) O W hO).trans (wp_mono frame _ _ fun _ => more_waits)

omit [FloatOps F] in
/-- A SparseCore's part is its tiles' parts. -/
theorem vecSplit : (K (F := F)).VecSplit' (P m) 0 := by
  intro d c
  show (bigSep Finset.univ fun s : Fin 16 => taskShare m d (m (oLoc d)) c s : sProp 𝕄) ⊢ |={Set.univ}=> iprop(
      (bigSep Finset.univ fun s : Fin 16 => taskShare m d (m (oLoc d)) c s)
      ∗ ((bigSep Finset.univ fun s : Fin 16 => taskShare m d (meant m d) c s) -∗ bigSep Finset.univ fun s : Fin 16 => taskShare m d (meant m d) c s))
  iintro H; imodintro
  isplitl [H]; · iexact H
  iintro H; iexact H

/-! ## The launch element: the handshakes' rounds; the copies' counters start empty -/

omit [FloatOps F] in
/-- Nothing, for every member of a set, is nothing. -/
theorem bigSep_nothing {I : Type} (s : Finset I) : (bigSep s fun _ => iprop(emp)) = (iprop(emp) : sProp 𝕄) := bigSep_emp_const s

/-- The ghost state the launch starts from. -/
def u₀ : UU := (initOf (K (F := F)).hsCells (K (F := F)).hsToks, 1)

omit [FloatOps F] in
/-- It gives the handshakes their rounds; nothing more is handed out. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## @main on the TensorCore -/

omit [FloatOps F] in
/-- The arrays @main owns: the input, the offsets and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (fLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What @main ends with: the arrays whole, the result at its meaning. -/
abbrev FIN (d : Dev nD) : sProp 𝕄 :=
  iprop((xLoc d ↦{fullShare} m (xLoc d)) ∗ (fLoc d ↦{fullShare} m (fLoc d)) ∗ (oLoc d ↦{fullShare} meant m d))

omit [FloatOps F] in
/-- What the call hands to the SparseCores is the three arrays whole. -/
theorem st0_eq (d : Dev nD) : (bigSep Finset.univ fun c : Fin ((K (F := F)).nCore 0) => (P m).st 0 d c)
    = iprop((xLoc d ↦{fullShare} m (xLoc d)) ∗ (fLoc d ↦{fullShare} m (fLoc d)) ∗ (oLoc d ↦{fullShare} m (oLoc d))) :=
  (deal d (m (xLoc d)) (m (fLoc d)) (m (oLoc d))).symm
omit [FloatOps F] in
/-- What they hand back is the three arrays whole, the result at its meaning. -/
theorem dn0_eq (d : Dev nD) : (bigSep Finset.univ fun c : Fin ((K (F := F)).nCore 0) => (P m).dn 0 d c) = FIN m d :=
  (deal d (m (xLoc d)) (m (fLoc d)) (meant m d)).symm

/-- @main: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st0_eq]; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What a final state's memory holds. -/
def fq (d : Dev nD) (s' : Phys nD τ sig (Elt F)) : Prop :=
  s'.mem.mem (oLoc d) = meant m d ∧ s'.mem.mem (xLoc d) = m (xLoc d) ∧ s'.mem.mem (fLoc d) = m (fLoc d)

omit [FloatOps F] in
/-- Holding the arrays fixes what the final memory reads. -/
theorem hfin (d : Dev nD) (s' : Phys nD τ sig (Elt F)) : iprop(FIN m d ∗ SI s') ⊢ (⌜fq m d s'⌝ : sProp 𝕄) := by
  iintro ⟨⟨Hx, Hf, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := fLoc d) (I := Finset.univ) (q := fullShare) (f := m (fLoc d)))) $$ [HSI Hf]
  · isplitl [HSI] <;> iassumption
  icases H with ⟨%h2, HSI, -⟩
  ihave H := (SI_pointsTo_agree (st := s') (ℓ := oLoc d) (I := Finset.univ) (q := fullShare) (f := meant m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-- What every run ends in. -/
def Ends : PUnit × MemSt nD τ sig (Elt F) → Prop := fun r =>
  (∀ c : Dev nD, r.2.mem (oLoc c) = meant m c ∧ r.2.mem (xLoc c) = m (xLoc c) ∧ r.2.mem (fLoc c) = m (fLoc c)) ∧ r.2.sem = fun _ => 0

/-- Every run of the program ends so, over any values of the float types. -/
theorem run_main [∀ e, Nonempty (Elt F e)] : θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof

end
-- ==== Proof.Lookup.lean ====
/-
  The reference's lookup along the last axis, for indices already in range: its index table, with a trailing unit axis,
  holds the indices themselves (none is negative, so none is moved by a row length), its in-range mask is true everywhere,
  and its gather reads the operand at that index.
-/
module

public import proofs.«01_k».proof.Proof.Meaning
public import proofs.«01_k».proof.Proof.Gen.ReferenceIdeal
public import Idealize.ShloMosaic.Lib.Pipeline.Value
public import Idealize.ShloMosaic.PureOps.Reduce

@[expose] public section

noncomputable section

namespace Cert.Proof

open Idealize.ShloMosaic
open Cert.ReferenceIdeal Cert.ReferenceIdeal.Gen

variable {α : Type}

/-- A word below 8192 reads the same signed as unsigned. -/
theorem toInt_of_lt {u : BitVec 32} (h : u.toNat < 8192) : u.toInt = (u.toNat : ℤ) := by
  rw [BitVec.toInt_eq_toNat_cond, if_pos (by omega)]

/-- A one-bit conjunction over any set of entries that are all one, begun from one, is one. -/
theorem reduce_ones {s t u : Shape} {axes : List (Fin s.rank)} (x : IVec s 1) (init : IVec u 1) (h : s.ReducesTo axes t)
    (hu : 0 < u.numel) (j : t.Idx) (hx : ∀ i, x i = 1#1) (hi : ∀ i, init i = 1#1) :
    Host.reduce IntOp.andi x init h hu j = 1#1 := by
  rw [Host.reduce_eq_foldl, hi]
  generalize (List.filter _ _) = l
  induction l with
  | nil => rfl
  | cons a l ih => rw [List.foldl_cons, hx]; exact ih

/-- An index of the four-axis table as its three leading coordinates. -/
abbrev leading (i : S16x256x8192x1.Idx) : S16x256x8192.Idx := ix3 (i 0) (i 1) (i 2)

/-- Adding a trailing unit axis moves no entry. -/
theorem trailing_unit (x : S16x256x8192.Idx → α) (i : S16x256x8192x1.Idx) :
    shapeCast S16x256x8192x1 x shapeCasts_S16x256x8192_S16x256x8192x1 i = x (leading i) := by
  refine shapeCast_apply x _ i (leading i) ?_
  rw [Shape.rowMajor_val_three, Shape.rowMajor_val_four]
  have h : (i 3).val < 1 := (i 3).isLt
  show ((i 0).val * 256 + (i 1).val) * 8192 + (i 2).val = (((i 0).val * 256 + (i 1).val) * 8192 + (i 2).val) * 1 + (i 3).val
  omega

/-- The lookup's index table: a negative index moved up by a row length, then a trailing unit axis. -/
def table (W : IVec S16x256x8192 32) : IVec S16x256x8192x1 32 :=
  shapeCast S16x256x8192x1
    (select (cmpi .slt W (broadcastInDim S16x256x8192 ![] bcast_S_S16x256x8192 (constantI S_ 32 0#32)))
      (addi W (broadcastInDim S16x256x8192 ![] bcast_S_S16x256x8192 (constantI S_ 32 8192#32))) W)
    shapeCasts_S16x256x8192_S16x256x8192x1

/-- The lookup's mask: where the table's entry lies between 0 and 8191. -/
def inside (T : IVec S16x256x8192x1 32) : IVec S16x256x8192 1 :=
  Host.reduce IntOp.andi
    (andi (cmpi .sge T (broadcastInDim S16x256x8192x1 ![] bcast_S_S16x256x8192x1 (constantI S_ 32 0#32)))
      (cmpi .sle T (broadcastInDim S16x256x8192x1 ![0, 1, 2, 3] bcast_S1x1x1x1_S16x256x8192x1_0_1_2_3
        (broadcastInDim S1x1x1x1 ![3] bcast_S1_S1x1x1x1_3 (constantI S1 32 8191#32)))))
    (constantI S_ 1 1#1) reducesTo_S16x256x8192x1_S16x256x8192_d3 h_S_

/-- The gather's description: rows matched on the first two axes, the index on the last. -/
abbrev along : GatherDims S16x256x8192 S16x256x8192x1 S16x256x8192 :=
  gather_S16x256x8192_S16x256x8192x1_S16x256x8192_n_2_01_01_2_3_111

/-- The whole lookup: the gather where the mask is true, a filler elsewhere. -/
def lookup (X : S16x256x8192.Idx → α) (W : IVec S16x256x8192 32) (filler : S16x256x8192.Idx → α) : S16x256x8192.Idx → α :=
  select (inside (table W))
    (Host.gather along X (table W)) filler

/-- On the last axis the gather starts at the table's entry, read signed and held to the row. -/
theorem start_last (T : IVec S16x256x8192x1 32) (p : S16x256x8192.Idx) :
    along.start p T (2 : Fin 3) = min (T (along.siIdx p ⟨0, Nat.one_pos⟩)).toInt.toNat (8192 - 1) :=
  dif_pos (show (2 : Fin 3) ∈ [2] by decide)

section InRange

variable (W : IVec S16x256x8192 32) (hW : ∀ p, (W p).toNat < 8192)

include hW

/-- The table of indices in range holds the indices. -/
theorem table_eq (i : S16x256x8192x1.Idx) : table W i = W (leading i) := by
  unfold table
  rw [trailing_unit]
  show Scalar.select (IntOp.cmpi .slt (W (leading i)) 0#32) _ _ = _
  have hn : (W (leading i)).slt 0#32 = false := by
    rw [Bool.eq_false_iff, ne_eq, BitVec.slt_iff_toInt_lt, toInt_of_lt (hW _)]
    have e0 : (0#32).toInt = 0 := by decide
    omega
  show (if BitVec.ofBool ((W (leading i)).slt 0#32) = 1 then _ else _) = _
  rw [hn]
  exact if_neg (by decide)

/-- The mask of indices in range is true everywhere. -/
theorem inside_eq (p : S16x256x8192.Idx) : inside (table W) p = 1#1 := by
  refine reduce_ones _ _ _ _ p (fun i => ?_) (fun _ => rfl)
  show BitVec.ofBool ((0#32).sle (table W i)) &&& BitVec.ofBool ((table W i).sle 8191#32) = 1#1
  rw [table_eq W hW]
  have hi := hW (leading i)
  have e0 : (0#32).toInt = 0 := by decide
  have e1 : (8191#32).toInt = 8191 := by decide
  have h0 : (0#32).sle (W (leading i)) = true := by
    rw [BitVec.sle_iff_toInt_le, toInt_of_lt hi]; omega
  have h1 : (W (leading i)).sle 8191#32 = true := by
    rw [BitVec.sle_iff_toInt_le, toInt_of_lt hi]; omega
  rw [h0, h1]; rfl

/-- The gather reads each row at the index. -/
theorem gather_eq (X : S16x256x8192.Idx → α) (p : S16x256x8192.Idx) :
    Host.gather along X (table W) p
      = X (ix3 (p 0) (p 1) (lane (W p))) := by
  unfold Host.gather
  refine congrArg X (funext fun a => Fin.ext ?_)
  show GatherDims.start _ p (table W) a + GatherDims.batchCoord _ p a + GatherDims.offCoord _ p a = _
  rw [GatherDims.offCoord_eq_zero _ _ _ (by revert a; decide)]
  match a with
  | ⟨0, _⟩ => rw [GatherDims.start_batching _ _ _ _ (show (0 : Fin 3) ∈ [0, 1] by decide)]; exact Nat.zero_add _
  | ⟨1, _⟩ => rw [GatherDims.start_batching _ _ _ _ (show (1 : Fin 3) ∈ [0, 1] by decide)]; exact Nat.zero_add _
  | ⟨2, _⟩ =>
    rw [GatherDims.batchCoord_eq_zero _ _ _ (show (2 : Fin 3) ∉ [0, 1] by decide)]
    have hp : leading (along.siIdx p ⟨0, Nat.one_pos⟩) = p := by
      funext b
      match b with
      | ⟨0, _⟩ => rfl
      | ⟨1, _⟩ => rfl
      | ⟨2, _⟩ => rfl
    have hl := hW p
    refine (congrArg (· + 0 + 0) (start_last (table W) p)).trans ?_
    rw [table_eq W hW, hp, toInt_of_lt hl, Int.toNat_natCast]
    show min (W p).toNat (8192 - 1) + 0 + 0 = (lane (W p)).val
    rw [lane_val hl]
    omega

/-- The lookup at indices in range is the operand read at the index; the filler is never taken. -/
theorem lookup_eq (X filler : S16x256x8192.Idx → α) (p : S16x256x8192.Idx) :
    lookup X W filler p = X (ix3 (p 0) (p 1) (lane (W p))) := by
  unfold lookup select Scalar.select
  rw [inside_eq W hW p, gather_eq W hW X p]
  exact if_pos rfl

end InRange

end Cert.Proof

end
-- ==== Proof.Reference.lean ====
/-
  The reference's result: its index words are the source lanes' words, and its lookup along the last axis at them is the
  meaning of the kernel's result.
-/
module

public import proofs.«01_k».proof.Proof.Lookup
public import proofs.«01_k».proof.Proof.Gen.ReferenceIdeal.Run

@[expose] public section

noncomputable section

namespace Cert.Proof

open Idealize.ShloMosaic Idealize.SL.Sem
open Cert.ReferenceIdeal Cert.ReferenceIdeal.Gen

variable {F : FTy → Type} [FloatOps F]

/-- The larger of two signed words does not depend on their order. -/
theorem maxsi_comm (u v : BitVec 32) : IntOp.maxsi u v = IntOp.maxsi v u := by
  unfold IntOp.maxsi
  by_cases h : v.slt u <;> by_cases h' : u.slt v <;>
    simp only [h, h', if_true, if_false, Bool.false_eq_true]
  all_goals
    rw [BitVec.slt_iff_toInt_lt] at h h'
    first
      | exact absurd h (by omega)
      | exact (BitVec.eq_of_toInt_eq (by omega))
      | exact (BitVec.eq_of_toInt_eq (by omega)).symm

/-- The smaller of two signed words does not depend on their order. -/
theorem minsi_comm (u v : BitVec 32) : IntOp.minsi u v = IntOp.minsi v u := by
  unfold IntOp.minsi
  by_cases h : u.slt v <;> by_cases h' : v.slt u <;>
    simp only [h, h', if_true, if_false, Bool.false_eq_true]
  all_goals
    rw [BitVec.slt_iff_toInt_lt] at h h'
    first
      | exact absurd h (by omega)
      | exact (BitVec.eq_of_toInt_eq (by omega))
      | exact (BitVec.eq_of_toInt_eq (by omega)).symm

/-- The reference's index words, one per batch row and position: offset less one, plus the position, clipped. -/
def words (O : IVec S16x8192 32) : IVec S16x8192 32 :=
  minsi (broadcastInDim S16x8192 ![] bcast_S_S16x8192 (id (constantI S_ 32 8191#32)))
    (maxsi (broadcastInDim S16x8192 ![] bcast_S_S16x8192 (id (constantI S_ 32 0#32)))
      (addi (subi O (broadcastInDim S16x8192 ![] bcast_S_S16x8192 (constantI S_ 32 1#32)))
        (broadcastInDim S16x8192 ![0, 1] bcast_S1x8192_S16x8192_0_1
          (broadcastInDim S1x8192 ![1] bcast_S8192_S1x8192_1 (iotaInDim S8192 32 0)))))

/-- They are the source lanes' words. -/
theorem words_eq (O : IVec S16x8192 32) (i : S16x8192.Idx) : words O i = laneWord (O i) (i 1).val := by
  show IntOp.minsi 8191#32 (IntOp.maxsi 0#32 (O i - 1#32 + BitVec.ofNat 32 (i 1).val)) = _
  rw [minsi_comm, maxsi_comm]
  rfl

/-- The index words repeated over the feature rows. -/
def spread (O : IVec S16x8192 32) : IVec S16x256x8192 32 :=
  broadcastInDim S16x256x8192 ![0, 1, 2] bcast_S16x1x8192_S16x256x8192_0_1_2
    (broadcastInDim S16x1x8192 ![0, 2] bcast_S16x8192_S16x1x8192_0_2 (words O))

/-- At a feature row they are the source lanes' words of its batch row. -/
theorem spread_eq (O : IVec S16x8192 32) (p : S16x256x8192.Idx) :
    spread O p = laneWord (O (ix2 (p 0) (p 2))) (p 2).val := by
  have h : spread O p = words O (ix2 (p 0) (p 2)) :=
    (broadcastInDim_apply _ _ _ p (ix3 (p 0) 0 (p 2)) (by intro a; match a with | ⟨0, _⟩ => rfl | ⟨1, _⟩ => rfl | ⟨2, _⟩ => rfl)).trans
      (broadcastInDim_apply _ _ _ _ (ix2 (p 0) (p 2)) (by intro a; match a with | ⟨0, _⟩ => rfl | ⟨1, _⟩ => rfl))
  exact h.trans (words_eq O _)

/-- The composed term the reference ends with is the lookup of its input at those words. -/
theorem term_eq (m : (ℓ : Loc nD τ sig) → Buf (Elt F) ℓ) (c : Dev nD) :
    Value.res_out0 m c
      = lookup (m ((c.tc : Thread nD τ).loc main_arg0)) (spread (m ((c.tc : Thread nD τ).loc main_arg1)))
          (broadcastInDim S16x256x8192 ![] bcast_S_S16x256x8192 (constant S_ .f32 0x7FC00000#32)) := rfl

/-- The reference's result is the meaning of the kernel's. -/
theorem value_eq (m : (ℓ : Loc nD τ sig) → Buf (Elt F) ℓ) (c : Dev nD) :
    Value.res_out0 m c
      = result (m ((c.tc : Thread nD τ).loc main_arg0)) (m ((c.tc : Thread nD τ).loc main_arg1)) := by
  rw [term_eq]
  funext p
  rw [lookup_eq _ (fun q => by rw [spread_eq]; exact laneWord_lt _ _), spread_eq]
  rfl

end Cert.Proof

end
-- ==== Proof.Claims.lean ====
/-
  The claims, read off two runs: the kernel's (its result at its meaning, its inputs kept, every counter at zero, over any
  floats) and the reference's (its result at the same meaning, its inputs kept).
-/
module

public import proofs.«01_k».proof.Defs
public import proofs.«01_k».proof.Proof.Launch
public import proofs.«01_k».proof.Proof.Reference
public import proofs.«01_k».proof.Proof.Gen.Kernel
public import Idealize.ShloMosaic.Adequacy

@[expose] public section

noncomputable section

namespace Cert.Proof

open Idealize.ShloMosaic Idealize.SL.Sem

/-- The kernel on bit patterns runs to the end, keeps its inputs and leaves every counter at zero. -/
theorem frame_kernel : Cert.quiescent_Kernel (hKernel := Cert.Kernel.Gen.facts) := fun m ρ _ =>
  (θ_run Cert.KernelIdeal.defs _ _).mono (fun _ h => ⟨fun c => (h.1 c).2, h.2⟩) (run_main (F := Bits) m ρ)

/-- The kernel on extended reals does too. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_main (F := Ideal) m ρ)

/-- The reference runs to the end and keeps its inputs; it has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal inputs the kernel and the reference end with equal results. -/
theorem values_agree : Cert.algebraic_KernelIdeal_ReferenceIdeal (hKernelIdeal := Cert.KernelIdeal.Gen.facts)
    (hReferenceIdeal := Cert.ReferenceIdeal.Gen.facts) := fun m ρ m' ρ' _ hag =>
  ⟨meant m,
    (θ_run Cert.KernelIdeal.defs _ _).mono (fun _ h c => h.1 c) (run_main (F := Ideal) m ρ),
    (θ_run Cert.ReferenceIdeal.defs _ _).mono
      (fun _ h c => ⟨((h c).1.trans (value_eq m' c)).trans (congrArg₂ result (hag c).1 (hag c).2), (h c).2⟩)
      (Cert.ReferenceIdeal.Value.run (F := Ideal) m' ρ')⟩

end Cert.Proof

end
-- ==== Proof.lean ====
/-
  The certificate: the three runs, the idealization that changes nothing, and the equality of the kernel's result with the
  reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims

@[expose] public section

noncomputable section

namespace Cert.Proof

/-- Every claim, with the programs' stated side conditions. -/
theorem claim : Cert.Claim :=
  ⟨Cert.Kernel.Gen.facts, Cert.KernelIdeal.Gen.facts, Cert.ReferenceIdeal.Gen.facts,
    frame_kernel, frame_ideal, frame_reference, trivial, values_agree⟩

end Cert.Proof

end
